-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Scan_ScanIdeal : Prop :=
  True

def Claim : Prop :=
  ∃ (hKernelIdeal : Cert.KernelIdeal.Facts) (hReferenceIdeal : Cert.ReferenceIdeal.Facts) (hScan : Cert.Scan.Facts) (hScanIdeal : Cert.ScanIdeal.Facts),
    quiescent_KernelIdeal (hKernelIdeal := hKernelIdeal)
    ∧ quiescent_ReferenceIdeal (hReferenceIdeal := hReferenceIdeal)
    ∧ quiescent_Scan (hScan := hScan)
    ∧ quiescent_ScanIdeal (hScanIdeal := hScanIdeal)
    ∧ algebraic_KernelIdeal_ReferenceIdeal (hKernelIdeal := hKernelIdeal) (hReferenceIdeal := hReferenceIdeal)
    ∧ preserves_Scan_ScanIdeal
-- ==== KernelIdeal.lean ====
abbrev S16x64 : Shape := ⟨2, ![16, 64]⟩
abbrev S1000000x64 : Shape := ⟨2, ![1000000, 64]⟩
abbrev S16x8 : Shape := ⟨2, ![16, 8]⟩
abbrev S20000x64 : Shape := ⟨2, ![20000, 64]⟩
abbrev S64x64 : Shape := ⟨2, ![64, 64]⟩
abbrev S16x20000 : Shape := ⟨2, ![16, 20000]⟩
abbrev S16 : Shape := ⟨1, ![16]⟩
abbrev S16x1 : Shape := ⟨2, ![16, 1]⟩
abbrev S1x16 : Shape := ⟨2, ![1, 16]⟩
abbrev S1 : Shape := ⟨1, ![1]⟩
abbrev S1x1 : Shape := ⟨2, ![1, 1]⟩
abbrev S16x20008 : Shape := ⟨2, ![16, 20008]⟩
abbrev S128 : Shape := ⟨1, ![128]⟩
abbrev S8x64 : Shape := ⟨2, ![8, 64]⟩
abbrev S1x8 : Shape := ⟨2, ![1, 8]⟩
abbrev S1x1x8 : Shape := ⟨3, ![1, 1, 8]⟩
abbrev S1x1x1 : Shape := ⟨3, ![1, 1, 1]⟩
abbrev S1x64 : Shape := ⟨2, ![1, 64]⟩

abbrev nBuf : Space → Nat
  | .hbm => 5
  | .vmem => 23
  | .smem => 1
  | _ => 0

abbrev bufTy : (tb : Table) → Fin (tcTables nBuf tb) → BufTy
  | .hbm, ⟨0, _⟩ => ⟨S16x64, .f32⟩
  | .hbm, ⟨1, _⟩ => ⟨S1000000x64, .f32⟩
  | .hbm, ⟨2, _⟩ => ⟨S16x8, .f32⟩
  | .hbm, ⟨3, _⟩ => ⟨S16x8, .i32⟩
  | .hbm, ⟨4, _⟩ => ⟨S16x64, .f32⟩
  | .local _ .vmem, ⟨0, _⟩ => ⟨S16x64, .f32⟩
  | .local _ .vmem, ⟨1, _⟩ => ⟨S20000x64, .f32⟩
  | .local _ .vmem, ⟨2, _⟩ => ⟨S20000x64, .f32⟩
  | .local _ .vmem, ⟨3, _⟩ => ⟨S16x8, .f32⟩
  | .local _ .vmem, ⟨4, _⟩ => ⟨S16x8, .i32⟩
  | .local _ .vmem, ⟨5, _⟩ => ⟨S16x8, .f32⟩
  | .local _ .vmem, ⟨6, _⟩ => ⟨S8x64, .f32⟩
  | .local _ .vmem, ⟨7, _⟩ => ⟨S8x64, .f32⟩
  | .local _ .vmem, ⟨8, _⟩ => ⟨S8x64, .f32⟩
  | .local _ .vmem, ⟨9, _⟩ => ⟨S8x64, .f32⟩
  | .local _ .vmem, ⟨10, _⟩ => ⟨S8x64, .f32⟩
  | .local _ .vmem, ⟨11, _⟩ => ⟨S8x64, .f32⟩
  | .local _ .vmem, ⟨12, _⟩ => ⟨S8x64, .f32⟩
  | .local _ .vmem, ⟨13, _⟩ => ⟨S8x64, .f32⟩
  | .local _ .vmem, ⟨14, _⟩ => ⟨S8x64, .f32⟩
  | .local _ .vmem, ⟨15, _⟩ => ⟨S8x64, .f32⟩
  | .local _ .vmem, ⟨16, _⟩ => ⟨S8x64, .f32⟩
  | .local _ .vmem, ⟨17, _⟩ => ⟨S8x64, .f32⟩
  | .local _ .vmem, ⟨18, _⟩ => ⟨S8x64, .f32⟩
  | .local _ .vmem, ⟨19, _⟩ => ⟨S8x64, .f32⟩
  | .local _ .vmem, ⟨20, _⟩ => ⟨S8x64, .f32⟩
  | .local _ .vmem, ⟨21, _⟩ => ⟨S8x64, .f32⟩
  | .local _ .vmem, ⟨22, _⟩ => ⟨S16x64, .f32⟩
  | .local _ .smem, ⟨0, _⟩ => ⟨S128, .i32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v2 : Ref sig .tc := ⟨.hbm, 4, rfl⟩
abbrev main_v1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22

abbrev nD : Nat := 1
abbrev τ : Topo := Topo.v7x

variable {F : FTy → Type} [FloatOps F] [Named F]

def κ : String → Option EReal := fun
  | "sharpness" => some ((134217728 / 13421773 : ℝ) : EReal)
  | _ => none

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S20000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x8 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

abbrev pre1 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def k1_off2 (i : grid1.Coords) : Fin 2 → Nat :=
  let arg0 : BitVec 32 := BitVec.ofNat 32 (i 0).val
  let v0 : Index := Scalar.indexCast arg0
  let c0 : Index := 0#32
  ![v0.toNat, 0]
def k1_off3 (v22 : BitVec 32) : Fin 2 → Nat :=
  let c8_i32_3 : BitVec 32 := 8#32
  let c0_i32_4 : BitVec 32 := 0#32
  let v23 : BitVec 1 := Scalar.cmpi .eq c8_i32_3 c0_i32_4
  let c1_i32 : BitVec 32 := 1#32
  let v24 : BitVec 32 := Scalar.select v23 c1_i32 c8_i32_3
  let v25 : BitVec 32 := Scalar.remsi v22 v24
  let c0_i32_6 : BitVec 32 := 0#32
  let v27 : BitVec 1 := Scalar.cmpi .slt v25 c0_i32_6
  let c0_i32_7 : BitVec 32 := 0#32
  let v28 : BitVec 1 := Scalar.cmpi .slt v24 c0_i32_7
  let v29 : BitVec 1 := Scalar.xori v27 v28
  let c0_i32_5 : BitVec 32 := 0#32
  let v26 : BitVec 1 := Scalar.cmpi .ne v25 c0_i32_5
  let v30 : BitVec 1 := Scalar.andi v29 v26
  let v31 : BitVec 32 := Scalar.addi v25 v24
  let v32 : BitVec 32 := Scalar.select v30 v31 v25
  let v33 : Index := Scalar.indexCast v32
  let c0_8 : Index := 0#32
  ![v33.toNat, 0]

def k1_chk1 (v22 : BitVec 32) : Prop :=
  (∀ a, (k1_off3 v22) a + S1x64.size a ≤ S8x64.size a)
theorem k1_off3_inb : ∀ (v22 : BitVec 32) (k1_hw1 : k1_chk1 v22), ∀ a, (k1_off3 v22) a + S1x64.size a ≤ S8x64.size a := fun v22 k1_hw1 => k1_hw1

def k1_off4 (i : grid1.Coords) : Fin 1 → Nat :=
  let arg0 : BitVec 32 := BitVec.ofNat 32 (i 0).val
  let c8_i32_9 : BitVec 32 := 8#32
  let v39 : BitVec 32 := Scalar.muli arg0 c8_i32_9
  let c1_i32_10 : BitVec 32 := 1#32
  let v40 : BitVec 32 := Scalar.addi v39 c1_i32_10
  let v41 : Index := Scalar.indexCast v40
  ![v41.toNat]
def k1_off5 (v42 : BitVec 32) : Fin 2 → Nat :=
  let c8_i32_11 : BitVec 32 := 8#32
  let c0_i32_12 : BitVec 32 := 0#32
  let v43 : BitVec 1 := Scalar.cmpi .eq c8_i32_11 c0_i32_12
  let c1_i32_13 : BitVec 32 := 1#32
  let v44 : BitVec 32 := Scalar.select v43 c1_i32_13 c8_i32_11
  let v45 : BitVec 32 := Scalar.remsi v42 v44
  let c0_i32_15 : BitVec 32 := 0#32
  let v47 : BitVec 1 := Scalar.cmpi .slt v45 c0_i32_15
  let c0_i32_16 : BitVec 32 := 0#32
  let v48 : BitVec 1 := Scalar.cmpi .slt v44 c0_i32_16
  let v49 : BitVec 1 := Scalar.xori v47 v48
  let c0_i32_14 : BitVec 32 := 0#32
  let v46 : BitVec 1 := Scalar.cmpi .ne v45 c0_i32_14
  let v50 : BitVec 1 := Scalar.andi v49 v46
  let v51 : BitVec 32 := Scalar.addi v45 v44
  let v52 : BitVec 32 := Scalar.select v50 v51 v45
  let v53 : Index := Scalar.indexCast v52
  let c0_17 : Index := 0#32
  ![v53.toNat, 0]

def k1_chk2 (v42 : BitVec 32) : Prop :=
  (∀ a, (k1_off5 v42) a + S1x64.size a ≤ S8x64.size a)
theorem k1_off5_inb : ∀ (v42 : BitVec 32) (k1_hw2 : k1_chk2 v42), ∀ a, (k1_off5 v42) a + S1x64.size a ≤ S8x64.size a := fun v42 k1_hw2 => k1_hw2

def k1_off6 (i : grid1.Coords) : Fin 1 → Nat :=
  let arg0 : BitVec 32 := BitVec.ofNat 32 (i 0).val
  let c8_i32_18 : BitVec 32 := 8#32
  let v59 : BitVec 32 := Scalar.muli arg0 c8_i32_18
  let c2_i32 : BitVec 32 := 2#32
  let v60 : BitVec 32 := Scalar.addi v59 c2_i32
  let v61 : Index := Scalar.indexCast v60
  ![v61.toNat]
def k1_off7 (v62 : BitVec 32) : Fin 2 → Nat :=
  let c8_i32_19 : BitVec 32 := 8#32
  let c0_i32_20 : BitVec 32 := 0#32
  let v63 : BitVec 1 := Scalar.cmpi .eq c8_i32_19 c0_i32_20
  let c1_i32_21 : BitVec 32 := 1#32
  let v64 : BitVec 32 := Scalar.select v63 c1_i32_21 c8_i32_19
  let v65 : BitVec 32 := Scalar.remsi v62 v64
  let c0_i32_23 : BitVec 32 := 0#32
  let v67 : BitVec 1 := Scalar.cmpi .slt v65 c0_i32_23
  let c0_i32_24 : BitVec 32 := 0#32
  let v68 : BitVec 1 := Scalar.cmpi .slt v64 c0_i32_24
  let v69 : BitVec 1 := Scalar.xori v67 v68
  let c0_i32_22 : BitVec 32 := 0#32
  let v66 : BitVec 1 := Scalar.cmpi .ne v65 c0_i32_22
  let v70 : BitVec 1 := Scalar.andi v69 v66
  let v71 : BitVec 32 := Scalar.addi v65 v64
  let v72 : BitVec 32 := Scalar.select v70 v71 v65
  let v73 : Index := Scalar.indexCast v72
  let c0_25 : Index := 0#32
  ![v73.toNat, 0]

def k1_chk3 (v62 : BitVec 32) : Prop :=
  (∀ a, (k1_off7 v62) a + S1x64.size a ≤ S8x64.size a)
theorem k1_off7_inb : ∀ (v62 : BitVec 32) (k1_hw3 : k1_chk3 v62), ∀ a, (k1_off7 v62) a + S1x64.size a ≤ S8x64.size a := fun v62 k1_hw3 => k1_hw3

def k1_off8 (i : grid1.Coords) : Fin 1 → Nat :=
  let arg0 : BitVec 32 := BitVec.ofNat 32 (i 0).val
  let c8_i32_26 : BitVec 32 := 8#32
  let v79 : BitVec 32 := Scalar.muli arg0 c8_i32_26
  let c3_i32 : BitVec 32 := 3#32
  let v80 : BitVec 32 := Scalar.addi v79 c3_i32
  let v81 : Index := Scalar.indexCast v80
  ![v81.toNat]
def k1_off9 (v82 : BitVec 32) : Fin 2 → Nat :=
  let c8_i32_27 : BitVec 32 := 8#32
  let c0_i32_28 : BitVec 32 := 0#32
  let v83 : BitVec 1 := Scalar.cmpi .eq c8_i32_27 c0_i32_28
  let c1_i32_29 : BitVec 32 := 1#32
  let v84 : BitVec 32 := Scalar.select v83 c1_i32_29 c8_i32_27
  let v85 : BitVec 32 := Scalar.remsi v82 v84
  let c0_i32_31 : BitVec 32 := 0#32
  let v87 : BitVec 1 := Scalar.cmpi .slt v85 c0_i32_31
  let c0_i32_32 : BitVec 32 := 0#32
  let v88 : BitVec 1 := Scalar.cmpi .slt v84 c0_i32_32
  let v89 : BitVec 1 := Scalar.xori v87 v88
  let c0_i32_30 : BitVec 32 := 0#32
  let v86 : BitVec 1 := Scalar.cmpi .ne v85 c0_i32_30
  let v90 : BitVec 1 := Scalar.andi v89 v86
  let v91 : BitVec 32 := Scalar.addi v85 v84
  let v92 : BitVec 32 := Scalar.select v90 v91 v85
  let v93 : Index := Scalar.indexCast v92
  let c0_33 : Index := 0#32
  ![v93.toNat, 0]

def k1_chk4 (v82 : BitVec 32) : Prop :=
  (∀ a, (k1_off9 v82) a + S1x64.size a ≤ S8x64.size a)
theorem k1_off9_inb : ∀ (v82 : BitVec 32) (k1_hw4 : k1_chk4 v82), ∀ a, (k1_off9 v82) a + S1x64.size a ≤ S8x64.size a := fun v82 k1_hw4 => k1_hw4

def k1_off10 (i : grid1.Coords) : Fin 1 → Nat :=
  let arg0 : BitVec 32 := BitVec.ofNat 32 (i 0).val
  let c8_i32_34 : BitVec 32 := 8#32
  let v99 : BitVec 32 := Scalar.muli arg0 c8_i32_34
  let c4_i32 : BitVec 32 := 4#32
  let v100 : BitVec 32 := Scalar.addi v99 c4_i32
  let v101 : Index := Scalar.indexCast v100
  ![v101.toNat]
def k1_off11 (v102 : BitVec 32) : Fin 2 → Nat :=
  let c8_i32_35 : BitVec 32 := 8#32
  let c0_i32_36 : BitVec 32 := 0#32
  let v103 : BitVec 1 := Scalar.cmpi .eq c8_i32_35 c0_i32_36
  let c1_i32_37 : BitVec 32 := 1#32
  let v104 : BitVec 32 := Scalar.select v103 c1_i32_37 c8_i32_35
  let v105 : BitVec 32 := Scalar.remsi v102 v104
  let c0_i32_39 : BitVec 32 := 0#32
  let v107 : BitVec 1 := Scalar.cmpi .slt v105 c0_i32_39
  let c0_i32_40 : BitVec 32 := 0#32
  let v108 : BitVec 1 := Scalar.cmpi .slt v104 c0_i32_40
  let v109 : BitVec 1 := Scalar.xori v107 v108
  let c0_i32_38 : BitVec 32 := 0#32
  let v106 : BitVec 1 := Scalar.cmpi .ne v105 c0_i32_38
  let v110 : BitVec 1 := Scalar.andi v109 v106
  let v111 : BitVec 32 := Scalar.addi v105 v104
  let v112 : BitVec 32 := Scalar.select v110 v111 v105
  let v113 : Index := Scalar.indexCast v112
  let c0_41 : Index := 0#32
  ![v113.toNat, 0]

def k1_chk5 (v102 : BitVec 32) : Prop :=
  (∀ a, (k1_off11 v102) a + S1x64.size a ≤ S8x64.size a)
theorem k1_off11_inb : ∀ (v102 : BitVec 32) (k1_hw5 : k1_chk5 v102), ∀ a, (k1_off11 v102) a + S1x64.size a ≤ S8x64.size a := fun v102 k1_hw5 => k1_hw5

def k1_off12 (i : grid1.Coords) : Fin 1 → Nat :=
  let arg0 : BitVec 32 := BitVec.ofNat 32 (i 0).val
  let c8_i32_42 : BitVec 32 := 8#32
  let v119 : BitVec 32 := Scalar.muli arg0 c8_i32_42
  let c5_i32 : BitVec 32 := 5#32
  let v120 : BitVec 32 := Scalar.addi v119 c5_i32
  let v121 : Index := Scalar.indexCast v120
  ![v121.toNat]
def k1_off13 (v122 : BitVec 32) : Fin 2 → Nat :=
  let c8_i32_43 : BitVec 32 := 8#32
  let c0_i32_44 : BitVec 32 := 0#32
  let v123 : BitVec 1 := Scalar.cmpi .eq c8_i32_43 c0_i32_44
  let c1_i32_45 : BitVec 32 := 1#32
  let v124 : BitVec 32 := Scalar.select v123 c1_i32_45 c8_i32_43
  let v125 : BitVec 32 := Scalar.remsi v122 v124
  let c0_i32_47 : BitVec 32 := 0#32
  let v127 : BitVec 1 := Scalar.cmpi .slt v125 c0_i32_47
  let c0_i32_48 : BitVec 32 := 0#32
  let v128 : BitVec 1 := Scalar.cmpi .slt v124 c0_i32_48
  let v129 : BitVec 1 := Scalar.xori v127 v128
  let c0_i32_46 : BitVec 32 := 0#32
  let v126 : BitVec 1 := Scalar.cmpi .ne v125 c0_i32_46
  let v130 : BitVec 1 := Scalar.andi v129 v126
  let v131 : BitVec 32 := Scalar.addi v125 v124
  let v132 : BitVec 32 := Scalar.select v130 v131 v125
  let v133 : Index := Scalar.indexCast v132
  let c0_49 : Index := 0#32
  ![v133.toNat, 0]

def k1_chk6 (v122 : BitVec 32) : Prop :=
  (∀ a, (k1_off13 v122) a + S1x64.size a ≤ S8x64.size a)
theorem k1_off13_inb : ∀ (v122 : BitVec 32) (k1_hw6 : k1_chk6 v122), ∀ a, (k1_off13 v122) a + S1x64.size a ≤ S8x64.size a := fun v122 k1_hw6 => k1_hw6

def k1_off14 (i : grid1.Coords) : Fin 1 → Nat :=
  let arg0 : BitVec 32 := BitVec.ofNat 32 (i 0).val
  let c8_i32_50 : BitVec 32 := 8#32
  let v139 : BitVec 32 := Scalar.muli arg0 c8_i32_50
  let c6_i32 : BitVec 32 := 6#32
  let v140 : BitVec 32 := Scalar.addi v139 c6_i32
  let v141 : Index := Scalar.indexCast v140
  ![v141.toNat]
def k1_off15 (v142 : BitVec 32) : Fin 2 → Nat :=
  let c8_i32_51 : BitVec 32 := 8#32
  let c0_i32_52 : BitVec 32 := 0#32
  let v143 : BitVec 1 := Scalar.cmpi .eq c8_i32_51 c0_i32_52
  let c1_i32_53 : BitVec 32 := 1#32
  let v144 : BitVec 32 := Scalar.select v143 c1_i32_53 c8_i32_51
  let v145 : BitVec 32 := Scalar.remsi v142 v144
  let c0_i32_55 : BitVec 32 := 0#32
  let v147 : BitVec 1 := Scalar.cmpi .slt v145 c0_i32_55
  let c0_i32_56 : BitVec 32 := 0#32
  let v148 : BitVec 1 := Scalar.cmpi .slt v144 c0_i32_56
  let v149 : BitVec 1 := Scalar.xori v147 v148
  let c0_i32_54 : BitVec 32 := 0#32
  let v146 : BitVec 1 := Scalar.cmpi .ne v145 c0_i32_54
  let v150 : BitVec 1 := Scalar.andi v149 v146
  let v151 : BitVec 32 := Scalar.addi v145 v144
  let v152 : BitVec 32 := Scalar.select v150 v151 v145
  let v153 : Index := Scalar.indexCast v152
  let c0_57 : Index := 0#32
  ![v153.toNat, 0]

def k1_chk7 (v142 : BitVec 32) : Prop :=
  (∀ a, (k1_off15 v142) a + S1x64.size a ≤ S8x64.size a)
theorem k1_off15_inb : ∀ (v142 : BitVec 32) (k1_hw7 : k1_chk7 v142), ∀ a, (k1_off15 v142) a + S1x64.size a ≤ S8x64.size a := fun v142 k1_hw7 => k1_hw7

def k1_off16 (i : grid1.Coords) : Fin 1 → Nat :=
  let arg0 : BitVec 32 := BitVec.ofNat 32 (i 0).val
  let c8_i32_58 : BitVec 32 := 8#32
  let v159 : BitVec 32 := Scalar.muli arg0 c8_i32_58
  let c7_i32 : BitVec 32 := 7#32
  let v160 : BitVec 32 := Scalar.addi v159 c7_i32
  let v161 : Index := Scalar.indexCast v160
  ![v161.toNat]
def k1_off17 (v162 : BitVec 32) : Fin 2 → Nat :=
  let c8_i32_59 : BitVec 32 := 8#32
  let c0_i32_60 : BitVec 32 := 0#32
  let v163 : BitVec 1 := Scalar.cmpi .eq c8_i32_59 c0_i32_60
  let c1_i32_61 : BitVec 32 := 1#32
  let v164 : BitVec 32 := Scalar.select v163 c1_i32_61 c8_i32_59
  let v165 : BitVec 32 := Scalar.remsi v162 v164
  let c0_i32_63 : BitVec 32 := 0#32
  let v167 : BitVec 1 := Scalar.cmpi .slt v165 c0_i32_63
  let c0_i32_64 : BitVec 32 := 0#32
  let v168 : BitVec 1 := Scalar.cmpi .slt v164 c0_i32_64
  let v169 : BitVec 1 := Scalar.xori v167 v168
  let c0_i32_62 : BitVec 32 := 0#32
  let v166 : BitVec 1 := Scalar.cmpi .ne v165 c0_i32_62
  let v170 : BitVec 1 := Scalar.andi v169 v166
  let v171 : BitVec 32 := Scalar.addi v165 v164
  let v172 : BitVec 32 := Scalar.select v170 v171 v165
  let v173 : Index := Scalar.indexCast v172
  let c0_65 : Index := 0#32
  ![v173.toNat, 0]

def k1_chk8 (v162 : BitVec 32) : Prop :=
  (∀ a, (k1_off17 v162) a + S1x64.size a ≤ S8x64.size a)
theorem k1_off17_inb : ∀ (v162 : BitVec 32) (k1_hw8 : k1_chk8 v162), ∀ a, (k1_off17 v162) a + S1x64.size a ≤ S8x64.size a := fun v162 k1_hw8 => k1_hw8

def k1_off18 (i : grid1.Coords) : Fin 2 → Nat :=
  let arg0 : BitVec 32 := BitVec.ofNat 32 (i 0).val
  let v179 : Index := Scalar.indexCast arg0
  let c0_66 : Index := 0#32
  ![v179.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (k1_off1_inb : ∀ i : grid1.Coords, ∀ (r : Fin 8), ∀ a, (k1_off1 i (BitVec.ofNat 32 r.val)) a + S1.size a ≤ S128.size a) (numel1_S1 : S1.numel = 1) (pf : pre1.Contents (Elt F)) (i : grid1.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  let v3 : BitVec 32 := pf.at 0 (Rect.unit (s := S128) ![v2.toNat] S1.size (k1_off1_inb i 0)) numel1_S1
  let c8_i32_0 : BitVec 32 := 8#32
  let v4 : BitVec 32 := Scalar.divsi v3 c8_i32_0
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c8_i32_0 c0_i32_3
  let v11 : BitVec 32 := Scalar.extui v10
  let c0_i32_4 : BitVec 32 := 0#32
  let v12 : BitVec 1 := Scalar.cmpi .slt c8_i32_0 c0_i32_4
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c0_i32_6 : BitVec 32 := 0#32
  let c0_i32_7 : BitVec 32 := 0#32
  ![v20.toNat, c0_i32_6.toNat]

def cc1_transform_2 (k1_off1_inb : ∀ i : grid1.Coords, ∀ (r : Fin 8), ∀ a, (k1_off1 i (BitVec.ofNat 32 r.val)) a + S1.size a ≤ S128.size a) (numel1_S1 : S1.numel = 1) (pf : pre1.Contents (Elt F)) (i : grid1.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let v2 : Index := Scalar.indexCast v1
  let v3 : BitVec 32 := pf.at 0 (Rect.unit (s := S128) ![v2.toNat] S1.size (k1_off1_inb i 1)) numel1_S1
  let c8_i32_0 : BitVec 32 := 8#32
  let v4 : BitVec 32 := Scalar.divsi v3 c8_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  ![v20.toNat, c0_i32_6.toNat]

def cc1_transform_3 (k1_off1_inb : ∀ i : grid1.Coords, ∀ (r : Fin 8), ∀ a, (k1_off1 i (BitVec.ofNat 32 r.val)) a + S1.size a ≤ S128.size a) (numel1_S1 : S1.numel = 1) (pf : pre1.Contents (Elt F)) (i : grid1.Coords) : Fin 2 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let v2 : Index := Scalar.indexCast v1
  let v3 : BitVec 32 := pf.at 0 (Rect.unit (s := S128) ![v2.toNat] S1.size (k1_off1_inb i 2)) numel1_S1
  let c8_i32_0 : BitVec 32 := 8#32
  let v4 : BitVec 32 := Scalar.divsi v3 c8_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  ![v20.toNat, c0_i32_5.toNat]

def cc1_transform_4 (k1_off1_inb : ∀ i : grid1.Coords, ∀ (r : Fin 8), ∀ a, (k1_off1 i (BitVec.ofNat 32 r.val)) a + S1.size a ≤ S128.size a) (numel1_S1 : S1.numel = 1) (pf : pre1.Contents (Elt F)) (i : grid1.Coords) : Fin 2 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let v2 : Index := Scalar.indexCast v1
  let v3 : BitVec 32 := pf.at 0 (Rect.unit (s := S128) ![v2.toNat] S1.size (k1_off1_inb i 3)) numel1_S1
  let c8_i32_0 : BitVec 32 := 8#32
  let v4 : BitVec 32 := Scalar.divsi v3 c8_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  ![v20.toNat, c0_i32_5.toNat]

def cc1_transform_5 (k1_off1_inb : ∀ i : grid1.Coords, ∀ (r : Fin 8), ∀ a, (k1_off1 i (BitVec.ofNat 32 r.val)) a + S1.size a ≤ S128.size a) (numel1_S1 : S1.numel = 1) (pf : pre1.Contents (Elt F)) (i : grid1.Coords) : Fin 2 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let v2 : Index := Scalar.indexCast v1
  let v3 : BitVec 32 := pf.at 0 (Rect.unit (s := S128) ![v2.toNat] S1.size (k1_off1_inb i 4)) numel1_S1
  let c8_i32_0 : BitVec 32 := 8#32
  let v4 : BitVec 32 := Scalar.divsi v3 c8_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  ![v20.toNat, c0_i32_5.toNat]

def cc1_transform_6 (k1_off1_inb : ∀ i : grid1.Coords, ∀ (r : Fin 8), ∀ a, (k1_off1 i (BitVec.ofNat 32 r.val)) a + S1.size a ≤ S128.size a) (numel1_S1 : S1.numel = 1) (pf : pre1.Contents (Elt F)) (i : grid1.Coords) : Fin 2 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let v2 : Index := Scalar.indexCast v1
  let v3 : BitVec 32 := pf.at 0 (Rect.unit (s := S128) ![v2.toNat] S1.size (k1_off1_inb i 5)) numel1_S1
  let c8_i32_0 : BitVec 32 := 8#32
  let v4 : BitVec 32 := Scalar.divsi v3 c8_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  ![v20.toNat, c0_i32_5.toNat]

def cc1_transform_7 (k1_off1_inb : ∀ i : grid1.Coords, ∀ (r : Fin 8), ∀ a, (k1_off1 i (BitVec.ofNat 32 r.val)) a + S1.size a ≤ S128.size a) (numel1_S1 : S1.numel = 1) (pf : pre1.Contents (Elt F)) (i : grid1.Coords) : Fin 2 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let v2 : Index := Scalar.indexCast v1
  let v3 : BitVec 32 := pf.at 0 (Rect.unit (s := S128) ![v2.toNat] S1.size (k1_off1_inb i 6)) numel1_S1
  let c8_i32_0 : BitVec 32 := 8#32
  let v4 : BitVec 32 := Scalar.divsi v3 c8_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  ![v20.toNat, c0_i32_5.toNat]

def cc1_transform_8 (k1_off1_inb : ∀ i : grid1.Coords, ∀ (r : Fin 8), ∀ a, (k1_off1 i (BitVec.ofNat 32 r.val)) a + S1.size a ≤ S128.size a) (numel1_S1 : S1.numel = 1) (pf : pre1.Contents (Elt F)) (i : grid1.Coords) : Fin 2 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let v2 : Index := Scalar.indexCast v1
  let v3 : BitVec 32 := pf.at 0 (Rect.unit (s := S128) ![v2.toNat] S1.size (k1_off1_inb i 7)) numel1_S1
  let c8_i32_0 : BitVec 32 := 8#32
  let v4 : BitVec 32 := Scalar.divsi v3 c8_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  ![v20.toNat, c0_i32_5.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S16x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S16x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== ReferenceIdeal.lean ====
abbrev S16x64 : Shape := ⟨2, ![16, 64]⟩
abbrev S1000000x64 : Shape := ⟨2, ![1000000, 64]⟩
abbrev S16x16x4 : Shape := ⟨3, ![16, 16, 4]⟩
abbrev S_ : Shape := ⟨0, ![]⟩
abbrev S16x16 : Shape := ⟨2, ![16, 16]⟩
abbrev S16x16x1 : Shape := ⟨3, ![16, 16, 1]⟩
abbrev S1000000x16x4 : Shape := ⟨3, ![1000000, 16, 4]⟩
abbrev S1000000x16 : Shape := ⟨2, ![1000000, 16]⟩
abbrev S1000000x16x1 : Shape := ⟨3, ![1000000, 16, 1]⟩
abbrev S64x1000000 : Shape := ⟨2, ![64, 1000000]⟩
abbrev S16x1000000 : Shape := ⟨2, ![16, 1000000]⟩
abbrev S16x8 : Shape := ⟨2, ![16, 8]⟩
abbrev S16 : Shape := ⟨1, ![16]⟩
abbrev S16x1 : Shape := ⟨2, ![16, 1]⟩
abbrev S16x8x1 : Shape := ⟨3, ![16, 8, 1]⟩
abbrev S1 : Shape := ⟨1, ![1]⟩
abbrev S1x1x1 : Shape := ⟨3, ![1, 1, 1]⟩
abbrev S16x8x64 : Shape := ⟨3, ![16, 8, 64]⟩

abbrev nBuf : Space → Nat
  | .hbm => 78
  | .vmem => 0
  | .smem => 0
  | _ => 0

abbrev bufTy : (tb : Table) → Fin (tcTables nBuf tb) → BufTy
  | .hbm, ⟨0, _⟩ => ⟨S16x64, .f32⟩
  | .hbm, ⟨1, _⟩ => ⟨S1000000x64, .f32⟩
  | .hbm, ⟨2, _⟩ => ⟨S16x16x4, .f32⟩
  | .hbm, ⟨3, _⟩ => ⟨S16x16x4, .f32⟩
  | .hbm, ⟨4, _⟩ => ⟨S_, .f32⟩
  | .hbm, ⟨5, _⟩ => ⟨S16x16, .f32⟩
  | .hbm, ⟨6, _⟩ => ⟨S16x16x1, .f32⟩
  | .hbm, ⟨7, _⟩ => ⟨S_, .f32⟩
  | .hbm, ⟨8, _⟩ => ⟨S16x16x1, .f32⟩
  | .hbm, ⟨9, _⟩ => ⟨S16x16x1, .f32⟩
  | .hbm, ⟨10, _⟩ => ⟨S16x16x1, .f32⟩
  | .hbm, ⟨11, _⟩ => ⟨S16x16x4, .f32⟩
  | .hbm, ⟨12, _⟩ => ⟨S16x16x4, .f32⟩
  | .hbm, ⟨13, _⟩ => ⟨S16x64, .f32⟩
  | .hbm, ⟨14, _⟩ => ⟨S1000000x16x4, .f32⟩
  | .hbm, ⟨15, _⟩ => ⟨S1000000x16x4, .f32⟩
  | .hbm, ⟨16, _⟩ => ⟨S_, .f32⟩
  | .hbm, ⟨17, _⟩ => ⟨S1000000x16, .f32⟩
  | .hbm, ⟨18, _⟩ => ⟨S1000000x16x1, .f32⟩
  | .hbm, ⟨19, _⟩ => ⟨S_, .f32⟩
  | .hbm, ⟨20, _⟩ => ⟨S1000000x16x1, .f32⟩
  | .hbm, ⟨21, _⟩ => ⟨S1000000x16x1, .f32⟩
  | .hbm, ⟨22, _⟩ => ⟨S1000000x16x1, .f32⟩
  | .hbm, ⟨23, _⟩ => ⟨S1000000x16x4, .f32⟩
  | .hbm, ⟨24, _⟩ => ⟨S1000000x16x4, .f32⟩
  | .hbm, ⟨25, _⟩ => ⟨S1000000x64, .f32⟩
  | .hbm, ⟨26, _⟩ => ⟨S64x1000000, .f32⟩
  | .hbm, ⟨27, _⟩ => ⟨S16x1000000, .f32⟩
  | .hbm, ⟨28, _⟩ => ⟨S_, .f32⟩
  | .hbm, ⟨29, _⟩ => ⟨S16x1000000, .f32⟩
  | .hbm, ⟨30, _⟩ => ⟨S16x1000000, .f32⟩
  | .hbm, ⟨31, _⟩ => ⟨S16x8, .f32⟩
  | .hbm, ⟨32, _⟩ => ⟨S16x8, .i32⟩
  | .hbm, ⟨33, _⟩ => ⟨S_, .f32⟩
  | .hbm, ⟨34, _⟩ => ⟨S16x8, .f32⟩
  | .hbm, ⟨35, _⟩ => ⟨S16x8, .f32⟩
  | .hbm, ⟨36, _⟩ => ⟨S_, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S16x1, .f32⟩
  | .hbm, ⟨42, _⟩ => ⟨S16x8, .f32⟩
  | .hbm, ⟨43, _⟩ => ⟨S16x8, .f32⟩
  | .hbm, ⟨44, _⟩ => ⟨S16x8, .f32⟩
  | .hbm, ⟨45, _⟩ => ⟨S_, .f32⟩
  | .hbm, ⟨46, _⟩ => ⟨S16, .f32⟩
  | .hbm, ⟨47, _⟩ => ⟨S16x1, .f32⟩
  | .hbm, ⟨48, _⟩ => ⟨S16x8, .f32⟩
  | .hbm, ⟨49, _⟩ => ⟨S16x8, .f32⟩
  | .hbm, ⟨50, _⟩ => ⟨S_, .i32⟩
  | .hbm, ⟨51, _⟩ => ⟨S16x8, .i32⟩
  | .hbm, ⟨52, _⟩ => ⟨S16x8, .i1⟩
  | .hbm, ⟨53, _⟩ => ⟨S_, .i32⟩
  | .hbm, ⟨54, _⟩ => ⟨S16x8, .i32⟩
  | .hbm, ⟨55, _⟩ => ⟨S16x8, .i32⟩
  | .hbm, ⟨56, _⟩ => ⟨S16x8, .i32⟩
  | .hbm, ⟨57, _⟩ => ⟨S16x8x1, .i32⟩
  | .hbm, ⟨58, _⟩ => ⟨S1, .i32⟩
  | .hbm, ⟨59, _⟩ => ⟨S_, .i32⟩
  | .hbm, ⟨60, _⟩ => ⟨S16x8x1, .i32⟩
  | .hbm, ⟨61, _⟩ => ⟨S16x8x1, .i1⟩
  | .hbm, ⟨62, _⟩ => ⟨S1x1x1, .i32⟩
  | .hbm, ⟨63, _⟩ => ⟨S16x8x1, .i32⟩
  | .hbm, ⟨64, _⟩ => ⟨S16x8x1, .i1⟩
  | .hbm, ⟨65, _⟩ => ⟨S16x8x1, .i1⟩
  | .hbm, ⟨66, _⟩ => ⟨S_, .i1⟩
  | .hbm, ⟨67, _⟩ => ⟨S16x8, .i1⟩
  | .hbm, ⟨68, _⟩ => ⟨S16x8x64, .f32⟩
  | .hbm, ⟨69, _⟩ => ⟨S16x8x64, .i1⟩
  | .hbm, ⟨70, _⟩ => ⟨S_, .f32⟩
  | .hbm, ⟨71, _⟩ => ⟨S16x8x64, .f32⟩
  | .hbm, ⟨72, _⟩ => ⟨S16x8x64, .f32⟩
  | .hbm, ⟨73, _⟩ => ⟨S16x8x1, .f32⟩
  | .hbm, ⟨74, _⟩ => ⟨S16x8x64, .f32⟩
  | .hbm, ⟨75, _⟩ => ⟨S16x8x64, .f32⟩
  | .hbm, ⟨76, _⟩ => ⟨S_, .f32⟩
  | .hbm, ⟨77, _⟩ => ⟨S16x64, .f32⟩
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_values : Ref sig .tc := ⟨.hbm, 31, rfl⟩
abbrev main_indices : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_c : Ref sig .tc := ⟨.hbm, 50, rfl⟩
abbrev main_call0_v0 : Ref sig .tc := ⟨.hbm, 51, rfl⟩
abbrev main_call0_v1 : Ref sig .tc := ⟨.hbm, 52, rfl⟩
abbrev main_call0_c_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_c_1 : Ref sig .tc := ⟨.hbm, 58, rfl⟩
abbrev main_call0_c_2 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_3 : Ref sig .tc := ⟨.hbm, 66, rfl⟩
abbrev main_call0_v12 : Ref sig .tc := ⟨.hbm, 67, rfl⟩
abbrev main_call0_v13 : Ref sig .tc := ⟨.hbm, 68, rfl⟩
abbrev main_call0_v14 : Ref sig .tc := ⟨.hbm, 69, rfl⟩
abbrev main_call0_cst : Ref sig .tc := ⟨.hbm, 70, rfl⟩
abbrev main_call0_v15 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_8 : Ref sig .tc := ⟨.hbm, 76, rfl⟩
abbrev main_v41 : Ref sig .tc := ⟨.hbm, 77, rfl⟩

abbrev nD : Nat := 1
abbrev τ : Topo := Topo.v7x

variable {F : FTy → Type} [FloatOps F]
-- ==== Scan.lean ====
abbrev S16x64 : Shape := ⟨2, ![16, 64]⟩
abbrev S1000000x64 : Shape := ⟨2, ![1000000, 64]⟩
abbrev S16x8 : Shape := ⟨2, ![16, 8]⟩
abbrev S20000x64 : Shape := ⟨2, ![20000, 64]⟩
abbrev S64x64 : Shape := ⟨2, ![64, 64]⟩
abbrev S16x20000 : Shape := ⟨2, ![16, 20000]⟩
abbrev S16 : Shape := ⟨1, ![16]⟩
abbrev S16x1 : Shape := ⟨2, ![16, 1]⟩
abbrev S1x16 : Shape := ⟨2, ![1, 16]⟩
abbrev S1 : Shape := ⟨1, ![1]⟩
abbrev S1x1 : Shape := ⟨2, ![1, 1]⟩
abbrev S16x20008 : Shape := ⟨2, ![16, 20008]⟩

abbrev nBuf : Space → Nat
  | .hbm => 4
  | .vmem => 5
  | .smem => 0
  | _ => 0

abbrev bufTy : (tb : Table) → Fin (tcTables nBuf tb) → BufTy
  | .hbm, ⟨0, _⟩ => ⟨S16x64, .f32⟩
  | .hbm, ⟨1, _⟩ => ⟨S1000000x64, .f32⟩
  | .hbm, ⟨2, _⟩ => ⟨S16x8, .f32⟩
  | .hbm, ⟨3, _⟩ => ⟨S16x8, .i32⟩
  | .local _ .vmem, ⟨0, _⟩ => ⟨S16x64, .f32⟩
  | .local _ .vmem, ⟨1, _⟩ => ⟨S20000x64, .f32⟩
  | .local _ .vmem, ⟨2, _⟩ => ⟨S20000x64, .f32⟩
  | .local _ .vmem, ⟨3, _⟩ => ⟨S16x8, .f32⟩
  | .local _ .vmem, ⟨4, _⟩ => ⟨S16x8, .i32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S20000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x8 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Proof.Mem.Rules.lean ====
/-
  Loads and stores of a memref that is owned at known contents: the rules that the two kernel bodies' walks use.
-/
module

public import Idealize.ShloMosaic.Lib.Pipeline.FrameBody
public import Idealize.ShloMosaic.Lib.Pipeline.Value

@[expose] public section

noncomputable section

namespace Cert.Proof.Mem

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} [Preorder Lvl] {Λ : Labels}
variable {defs : Defs nD τ sig Val Λ} (𝒱 : Variants) (c : Thread nD τ)
variable {s : Shape} {e : EltTy} {α : Type} {Q : α → sProp (MT nD τ sig Ix Val Name U Lvl)}

/-- A load through a rectangle of an owned memref: the program goes on with what the contents are there. -/
theorem wp_load_owned {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c none) Set.univ (k (View.ld X r)) Q)
        -∗ wp frame (wpE defs 𝒱 c none) Set.univ (.op (.load m r hl) k) Q) := by
  unfold owns
  iintro ⟨%f, %hf, H⟩ Hk
  subst hf
  iapply (wp_load 𝒱 c none Set.univ (m := m) (S := m.view.set) (View.setOn_subset_set _ _)) $$ H
  iintro H
  iapply Hk
  iexists f
  isplitr; · ipureintro; rfl
  iexact H

/-- A store through a rectangle of a memref owned whole: the memref then holds the old contents overlaid there. -/
theorem wp_store_owned {cs : CoreSpace} {m : Memref sig c.2.kind cs s e} {r : Rect s} {w : r.shape.Idx → Val e}
    {hx : (m.access r).Stores Finset.univ} {hm : Finset.univ = (Finset.univ : Finset r.shape.Idx) ∨ ∀ a, r.stride a = 1}
    {k : PUnit → Prog (TpuEff nD τ sig Val Λ c.2) α} {X : s.Idx → Val e} :
    (owns c m fullShare X : sProp (MT nD τ sig Ix Val Name U Lvl))
      ⊢ iprop((owns c m fullShare (r.overlay X w) -∗ wp frame (wpE defs 𝒱 c none) Set.univ (k ⟨⟩) Q)
        -∗ wp frame (wpE defs 𝒱 c none) Set.univ (.op (.store m r w Finset.univ hx hm) k) Q) := by
  unfold owns
  iintro ⟨%f, %hf, H⟩ Hk
  subst hf
  iapply (wp_store 𝒱 c none Set.univ (m := m) (r := r) (S := (show Finset (Idx ((m.access r).loc c)) from m.view.set))
    ((View.setOn_subset_set _ _).trans (View.set_slice_subset _ _))) $$ H
  iintro H
  iapply Hk
  iexists _
  isplitr
  rotate_left
  · iexact H
  · ipureintro
    funext y
    by_cases hy : y ∈ r.set
    · obtain ⟨x, -, rfl⟩ := Finset.mem_map.mp (by rw [← Rect.map_emb_univ] at hy; exact hy)
      rw [Rect.overlay_emb]
      exact View.read_slice_write_emb r f w (Finset.mem_univ x)
    · rw [Rect.overlay_of_not_mem _ _ _ hy]
      exact View.read_slice_write_of_not_mem r f w _ (by rw [Rect.map_emb_univ]; exact hy)

/-- A word of an owned table read. -/
theorem wp_smemLoad_owned {m : Memref sig c.2.kind .smem s e} {r : Rect s} {hw : (m.access r).Loads} {x : r.shape.Idx}
    {k : Val e → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c none) Set.univ (k (X (r.idx x))) Q)
        -∗ wp frame (wpE defs 𝒱 c none) Set.univ (smemLoadElt m r hw x k) Q) :=
  wp_load_owned 𝒱 c (k := fun f => k (f x))

/-- The whole shape's rectangle at zero offsets overlays everything. -/
theorem overlay_unit_zero {S : Shape} {β : Type} {off : Fin S.rank → Nat} (h : off = fun _ => 0)
    (inb : ∀ a, off a + S.size a ≤ S.size a) (X w : S.Idx → β) : (Rect.unit off S.size inb).overlay X w = w := by
  subst h
  funext y
  have e := Rect.overlay_emb (Rect.whole S) X w y
  rw [Rect.emb_whole_apply] at e
  exact e

/-- Two zero offsets. -/
theorem zero2 : (![0, 0] : Fin 2 → Nat) = fun _ => 0 := funext fun a => by fin_cases a <;> rfl

end Cert.Proof.Mem

end
-- ==== Proof.Mem.ReadProg.lean ====
/-
  The readout body as a program over any signature and what it leaves in the output array: the three printed
  programs that hold a readout body (the whole kernel's and the readout call's own) share it.
-/
module

public import proofs.«01_k».proof.Proof.Mem.Rules
public import proofs.«01_k».proof.Proof.Gen.KernelIdeal
public import proofs.«01_k».proof.Proof.Gen.KernelIdeal.Skeleton

@[expose] public section

noncomputable section

namespace Cert.Proof.Mem

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Cert.KernelIdeal Cert.KernelIdeal.Gen

/-- The table's word for query row `i` and rank `j`. -/
abbrev wordRect (i : grid1.Coords) (j : Fin 8) : Rect S128 :=
  Rect.unit (s := S128) (k1_off1 i (BitVec.ofNat 32 j.val)) S1.size (k1_off1_inb i j)

/-- The word the body reads there. -/
def word (T : Vec F S128 .i32) (i : grid1.Coords) (j : Fin 8) : BitVec 32 :=
  T ((wordRect i j).idx (Shape.Idx.first (numel1_S1.symm ▸ Nat.one_pos)))

/-- The row of a window that word `v` names. -/
abbrev rowRect (v : BitVec 32) (h : k1_chk1 v) : Rect S8x64 := Rect.unit (s := S8x64) (k1_off3 v) S1x64.size (k1_off3_inb v h)

/-- The query row's weights' rectangle. -/
abbrev scoreRect (i : grid1.Coords) : Rect S16x8 := Rect.unit (s := S16x8) (k1_off2 i) S1x8.size (k1_off2_inb i)

/-- The query row's output rectangle. -/
abbrev outRect (i : grid1.Coords) : Rect S16x64 := Rect.unit (s := S16x64) (k1_off18 i) S1x64.size (k1_off18_inb i)

/-- The row written: the eight window rows, weighted and summed. -/
def mix (tv : Vec F S1x8 .f32) (r : Fin 8 → Vec F S1x64 .f32) : FVec F S1x64 .f32 :=
  k1_pay1 (k1_pay2 tv) (k1_pay6 (k1_pay2 tv) (k1_pay5 (k1_pay2 tv) (k1_pay4 (k1_pay2 tv) (k1_pay3 tv (r 0)) (r 1) (r 2)) (r 3) (r 4)) (r 5) (r 6)) (r 7)

section Prog

variable {nD : Nat} {τ : Topo} {sig : RefSig} {Λ : Labels}

/-- One step: the table's word, its check, the window's row it names. -/
def readStep (i : grid1.Coords) (j : Fin 8) (a1 : Memref sig .tc .smem S128 .i32) (a : Memref sig .tc .vmem S8x64 .f32) :
    Prog (TpuEff nD τ sig (Elt F) Λ .tc) (Vec F S1x64 .f32) := do
  let v : Elt F .i32 ← smemLoad a1 (wordRect i j) numel1_S1 rfl
  have h : k1_chk1 v := (← Prog.lift (TpuEff.assume (k1_chk1 v) (k1_chk1.dec v))).down
  Prog.lift (.load a (rowRect v h).toLoadRect (View.loadsAt_vmem h_S1x64))

/-- The readout body. -/
def readProg (i : grid1.Coords) (a1 : Memref sig .tc .smem S128 .i32) (a2 : Memref sig .tc .vmem S16x8 .f32)
    (a3 a4 a5 a6 a7 a8 a9 a10 : Memref sig .tc .vmem S8x64 .f32) (a11 : Memref sig .tc .vmem S16x64 .f32) :
    Prog (TpuEff nD τ sig (Elt F) Λ .tc) PUnit := do
  let tv : Vec F S1x8 .f32 ← Prog.lift (.load a2 (scoreRect i).toLoadRect (View.loadsAt_vmem h_S1x8))
  let r0 : Vec F S1x64 .f32 ← readStep i 0 a1 a3
  let r1 : Vec F S1x64 .f32 ← readStep i 1 a1 a4
  let r2 : Vec F S1x64 .f32 ← readStep i 2 a1 a5
  let r3 : Vec F S1x64 .f32 ← readStep i 3 a1 a6
  let r4 : Vec F S1x64 .f32 ← readStep i 4 a1 a7
  let r5 : Vec F S1x64 .f32 ← readStep i 5 a1 a8
  let r6 : Vec F S1x64 .f32 ← readStep i 6 a1 a9
  let r7 : Vec F S1x64 .f32 ← readStep i 7 a1 a10
  let _ : Vec F S1x64 .f32 ← Prog.lift (.load a11 (outRect i).toLoadRect (View.loadsAt_vmem h_S1x64))
  Prog.lift (.store a11 (outRect i) (mix tv ![r0, r1, r2, r3, r4, r5, r6, r7]) Finset.univ (View.stores_vmem_bits_univ h_S1x64 rfl) (.inl rfl))
  pure ⟨⟩

variable {Ix : Type} [DecidableEq Ix] {Name : Type} [DecidableEq Name] {U : Type} [URA U] {Lvl : Type} [Preorder Lvl]
variable {defs : Defs nD τ sig (Elt F) Λ} (𝒱 : Variants) (c : Dev nD)

local notation "𝕄" => MT nD τ sig Ix (Elt F) Name U Lvl

/-- One step, its check holding: the program goes on with the window's row. -/
theorem readStep_sound {α : Type} {Q : α → sProp 𝕄} (i : grid1.Coords) (j : Fin 8) (a1 : Memref sig .tc .smem S128 .i32)
    (a : Memref sig .tc .vmem S8x64 .f32) (q q' : PosShare TreeShare) (T : Vec F S128 .i32) (X : Vec F S8x64 .f32) (h : k1_chk1 (word (F := F) T i j))
    (k : Vec F S1x64 .f32 → Prog (TpuEff nD τ sig (Elt F) Λ .tc) α) :
    (iprop(owns (c : Thread nD τ) a1 q T ∗ owns (c : Thread nD τ) a q' X) : sProp 𝕄)
      ⊢ iprop((owns (c : Thread nD τ) a1 q T ∗ owns (c : Thread nD τ) a q' X
          -∗ wp frame (wpE defs 𝒱 (c : Thread nD τ) none) Set.univ (k (View.ld X (rowRect (word (F := F) T i j) h))) Q)
        -∗ wp frame (wpE defs 𝒱 (c : Thread nD τ) none) Set.univ (readStep i j a1 a >>= k) Q) := by
  unfold readStep smemLoad
  iintro ⟨H1, H2⟩ Hk
  simp only [smemLoadElt, Prog.bind_op, Prog.bind_ret, Prog.pure_eq_ret, Prog.lift, bind, Prog.bind]
  iapply (wp_load_owned 𝒱 (c : Thread nD τ)) $$ H1; iintro H1
  iapply (wp_assume 𝒱 (c : Thread nD τ) none Set.univ (P := k1_chk1 (word (F := F) T i j)) h)
  iapply (wp_load_owned 𝒱 (c : Thread nD τ)) $$ H2; iintro H2
  iapply Hk
  isplitl [H1]; · iexact H1
  iexact H2

/-- The readout body, its memrefs owned and the eight checks holding: row `i` of the output becomes the mix. -/
theorem readProg_sound (i : grid1.Coords) (a1 : Memref sig .tc .smem S128 .i32) (a2 : Memref sig .tc .vmem S16x8 .f32)
    (a3 a4 a5 a6 a7 a8 a9 a10 : Memref sig .tc .vmem S8x64 .f32) (a11 : Memref sig .tc .vmem S16x64 .f32)
    (q : PosShare TreeShare) (T : Vec F S128 .i32) (tv : Vec F S16x8 .f32) (X : Fin 8 → Vec F S8x64 .f32) (o : Vec F S16x64 .f32)
    (h : ∀ j, k1_chk1 (word (F := F) T i j)) :
    (iprop(owns (c : Thread nD τ) a1 q T ∗ owns (c : Thread nD τ) a2 fullShare tv
        ∗ owns (c : Thread nD τ) a3 fullShare (X 0) ∗ owns (c : Thread nD τ) a4 fullShare (X 1)
        ∗ owns (c : Thread nD τ) a5 fullShare (X 2) ∗ owns (c : Thread nD τ) a6 fullShare (X 3)
        ∗ owns (c : Thread nD τ) a7 fullShare (X 4) ∗ owns (c : Thread nD τ) a8 fullShare (X 5)
        ∗ owns (c : Thread nD τ) a9 fullShare (X 6) ∗ owns (c : Thread nD τ) a10 fullShare (X 7)
        ∗ owns (c : Thread nD τ) a11 fullShare o) : sProp 𝕄)
      ⊢ wp frame (wpE defs 𝒱 (c : Thread nD τ) none) Set.univ (readProg i a1 a2 a3 a4 a5 a6 a7 a8 a9 a10 a11) fun _ =>
        iprop(owns (c : Thread nD τ) a1 q T ∗ owns (c : Thread nD τ) a2 fullShare tv
          ∗ owns (c : Thread nD τ) a3 fullShare (X 0) ∗ owns (c : Thread nD τ) a4 fullShare (X 1)
          ∗ owns (c : Thread nD τ) a5 fullShare (X 2) ∗ owns (c : Thread nD τ) a6 fullShare (X 3)
          ∗ owns (c : Thread nD τ) a7 fullShare (X 4) ∗ owns (c : Thread nD τ) a8 fullShare (X 5)
          ∗ owns (c : Thread nD τ) a9 fullShare (X 6) ∗ owns (c : Thread nD τ) a10 fullShare (X 7)
          ∗ owns (c : Thread nD τ) a11 fullShare ((outRect i).overlay o
              (mix (View.ld tv (scoreRect i)) fun j => View.ld (X j) (rowRect (word (F := F) T i j) (h j))))) := by
  unfold readProg
  iintro ⟨H1, H2, H3, H4, H5, H6, H7, H8, H9, H10, H11⟩
  rw [Prog.lift, Prog.bind_op]
  iapply (wp_load_owned 𝒱 (c : Thread nD τ)) $$ H2; iintro H2
  rw [Prog.bind_ret]
  iapply (readStep_sound 𝒱 c i 0 a1 a3 _ _ T (X 0) (h 0)) $$ [H1 H3]
  · isplitl [H1]; · iexact H1
    iexact H3
  iintro ⟨H1, H3⟩
  iapply (readStep_sound 𝒱 c i 1 a1 a4 _ _ T (X 1) (h 1)) $$ [H1 H4]
  · isplitl [H1]; · iexact H1
    iexact H4
  iintro ⟨H1, H4⟩
  iapply (readStep_sound 𝒱 c i 2 a1 a5 _ _ T (X 2) (h 2)) $$ [H1 H5]
  · isplitl [H1]; · iexact H1
    iexact H5
  iintro ⟨H1, H5⟩
  iapply (readStep_sound 𝒱 c i 3 a1 a6 _ _ T (X 3) (h 3)) $$ [H1 H6]
  · isplitl [H1]; · iexact H1
    iexact H6
  iintro ⟨H1, H6⟩
  iapply (readStep_sound 𝒱 c i 4 a1 a7 _ _ T (X 4) (h 4)) $$ [H1 H7]
  · isplitl [H1]; · iexact H1
    iexact H7
  iintro ⟨H1, H7⟩
  iapply (readStep_sound 𝒱 c i 5 a1 a8 _ _ T (X 5) (h 5)) $$ [H1 H8]
  · isplitl [H1]; · iexact H1
    iexact H8
  iintro ⟨H1, H8⟩
  iapply (readStep_sound 𝒱 c i 6 a1 a9 _ _ T (X 6) (h 6)) $$ [H1 H9]
  · isplitl [H1]; · iexact H1
    iexact H9
  iintro ⟨H1, H9⟩
  iapply (readStep_sound 𝒱 c i 7 a1 a10 _ _ T (X 7) (h 7)) $$ [H1 H10]
  · isplitl [H1]; · iexact H1
    iexact H10
  iintro ⟨H1, H10⟩
  simp only [Prog.bind_op, Prog.bind_ret, Prog.pure_eq_ret, Prog.lift, bind, Prog.bind]
  iapply (wp_load_owned 𝒱 (c : Thread nD τ)) $$ H11; iintro H11
  iapply (wp_store_owned 𝒱 (c : Thread nD τ)) $$ H11; iintro H11
  rw [wp_ret]
  imodintro
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Prog

set_option maxRecDepth 65536 in
/-- The whole kernel's readout body is the program. -/
theorem kernel_read_eq (i : grid1.Coords) (a1 : Memref sig .tc .smem S128 .i32) (h1 : a1.IsWhole) (a2 : Memref sig .tc .vmem S16x8 .f32) (h2 : a2.IsWhole)
    (a3 : Memref sig .tc .vmem S8x64 .f32) (h3 : a3.IsWhole) (a4 : Memref sig .tc .vmem S8x64 .f32) (h4 : a4.IsWhole)
    (a5 : Memref sig .tc .vmem S8x64 .f32) (h5 : a5.IsWhole) (a6 : Memref sig .tc .vmem S8x64 .f32) (h6 : a6.IsWhole)
    (a7 : Memref sig .tc .vmem S8x64 .f32) (h7 : a7.IsWhole) (a8 : Memref sig .tc .vmem S8x64 .f32) (h8 : a8.IsWhole)
    (a9 : Memref sig .tc .vmem S8x64 .f32) (h9 : a9.IsWhole) (a10 : Memref sig .tc .vmem S8x64 .f32) (h10 : a10.IsWhole)
    (a11 : Memref sig .tc .vmem S16x64 .f32) (h11 : a11.IsWhole) :
    cc1__readout_body (F := F) i a1 h1 a2 h2 a3 h3 a4 h4 a5 h5 a6 h6 a7 h7 a8 h8 a9 h9 a10 h10 a11 h11
      = readProg i a1 a2 a3 a4 a5 a6 a7 a8 a9 a10 a11 := rfl

end Cert.Proof.Mem

end
-- ==== Proof.Mem.Words.lean ====
/-
  A row number as a table word: the block of eight rows it lies in, and its place there.
-/
module

public import proofs.«01_k».proof.Proof.Mem.ReadProg

@[expose] public section

noncomputable section

namespace Cert.Proof.Mem

open Idealize.ShloMosaic Idealize.ShloMosaic.TcCoe

open Cert.KernelIdeal Cert.KernelIdeal.Gen

variable {F : FTy → Type} [FloatOps F] [Named F]

theorem word_msb {v : BitVec 32} (h : v.toNat < 1000000) : v.msb = false := by
  rw [BitVec.msb_eq_decide]
  simp only [decide_eq_false_iff_not]
  omega

theorem divsi_eight {v : BitVec 32} (h : v.toNat < 1000000) : Scalar.divsi v 8#32 = BitVec.ofNat 32 (v.toNat / 8) := by
  unfold Scalar.divsi IntOp.divsi
  rw [if_neg (by unfold IntOp.SDivCorner; simp), BitVec.sdiv_eq, word_msb h, show (8#32 : BitVec 32).msb = false from by decide]
  apply BitVec.eq_of_toNat_eq
  simp only [BitVec.udiv_eq, BitVec.toNat_udiv, BitVec.toNat_ofNat, show (8 % 2 ^ 32 : ℕ) = 8 from rfl]
  omega

theorem remsi_eight {v : BitVec 32} (h : v.toNat < 1000000) : Scalar.remsi v 8#32 = BitVec.ofNat 32 (v.toNat % 8) := by
  unfold Scalar.remsi IntOp.remsi
  rw [if_neg (by unfold IntOp.SDivCorner; simp), BitVec.srem_eq, word_msb h, show (8#32 : BitVec 32).msb = false from by decide]
  apply BitVec.eq_of_toNat_eq
  simp only [BitVec.umod_eq, BitVec.toNat_umod, BitVec.toNat_ofNat, show (8 % 2 ^ 32 : ℕ) = 8 from rfl]
  omega

/-- A nonnegative word is not below zero. -/
theorem slt_zero {v : BitVec 32} (h : v.toNat < 1000000) : Scalar.cmpi .slt v 0#32 = 0#1 := by
  have : v.slt 0#32 = false := by
    rw [BitVec.slt_zero_eq_msb]; exact word_msb h
  simp [Scalar.cmpi, IntOp.cmpi, this]

/-- The block of eight rows that word `v` names, as the index maps compute it. -/
def blockWord (v3 : BitVec 32) : BitVec 32 :=
  let c8 : BitVec 32 := 8#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt c8 0#32)) (Scalar.extui (Scalar.cmpi .slt c8 0#32))
  Scalar.select (Scalar.andi (Scalar.cmpi .ne v9 v14) (Scalar.cmpi .ne (Scalar.remsi v3 c8) 0#32)) (Scalar.subi (Scalar.divsi v3 c8) 1#32) (Scalar.divsi v3 c8)

theorem blockWord_eq {v : BitVec 32} (h : v.toNat < 1000000) : (blockWord v).toNat = v.toNat / 8 := by
  unfold blockWord
  dsimp only
  rw [divsi_eight h, remsi_eight h, slt_zero h]
  by_cases h0 : v.toNat = 0
  · obtain rfl : v = 0#32 := BitVec.eq_of_toNat_eq (by simpa using h0)
    decide
  · have hs : Scalar.cmpi .sgt v 0#32 = 1#1 := by
      have : (0#32).slt v = true := by
        rw [BitVec.slt_eq_decide, decide_eq_true_eq, BitVec.toInt_eq_toNat_of_msb (word_msb h)]
        simp; omega
      simp [Scalar.cmpi, IntOp.cmpi, this]
    rw [hs]
    have e : Scalar.cmpi .ne (Scalar.subi (Scalar.extui (1#1 : BitVec 1)) (Scalar.extui (0#1 : BitVec 1)) : BitVec 32)
      (Scalar.subi (Scalar.extui (Scalar.cmpi .sgt 8#32 0#32)) (Scalar.extui (Scalar.cmpi .slt 8#32 0#32))) = 0#1 := by decide
    simp only [e]
    have a : ∀ x : BitVec 1, Scalar.andi (0#1) x = 0#1 := by decide
    rw [a]
    have s : ∀ x y : BitVec 32, Scalar.select 0#1 x y = y := fun x y => rfl
    rw [s, BitVec.toNat_ofNat]
    omega

theorem off3_eq {v : BitVec 32} (h : v.toNat < 1000000) : k1_off3 v = ![v.toNat % 8, 0] := by
  have h8 : v.toNat % 8 < 8 := Nat.mod_lt _ (by decide)
  have e : k1_off3 v = k1_off3 (BitVec.ofNat 32 (v.toNat % 8)) := by
    unfold k1_off3
    have e8 : Scalar.select (Scalar.cmpi .eq 8#32 0#32) 1#32 8#32 = 8#32 := by decide
    simp only [e8]
    rw [remsi_eight h, remsi_eight (v := BitVec.ofNat 32 (v.toNat % 8)) (by simp; omega)]
    simp only [BitVec.toNat_ofNat]
    rw [show v.toNat % 8 % 2 ^ 32 % 8 = v.toNat % 8 by omega]
  have d : ∀ n : Fin 8, k1_off3 (BitVec.ofNat 32 n.val) = ![n.val, 0] := by decide +kernel
  rw [e]
  exact d ⟨_, h8⟩

/-- A row number in range passes the body's check. -/
theorem chk1_of {v : BitVec 32} (h : v.toNat < 1000000) : k1_chk1 v := by
  have h8 : v.toNat % 8 < 8 := Nat.mod_lt _ (by decide)
  unfold k1_chk1
  rw [off3_eq h]
  intro a
  fin_cases a
  · show v.toNat % 8 + 1 ≤ 8
    omega
  · show 0 + 64 ≤ 64
    omega

/-- The place of rank `j`'s block for query row `i`: the eight index maps alike. -/
theorem transform_eq (pf : pre1.Contents (Elt F)) (i : grid1.Coords) :
    cc1_transform_1 k1_off1_inb numel1_S1 pf i = ![(blockWord (word (F := F) (pf 0) i 0)).toNat, 0]
    ∧ cc1_transform_2 k1_off1_inb numel1_S1 pf i = ![(blockWord (word (F := F) (pf 0) i 1)).toNat, 0]
    ∧ cc1_transform_3 k1_off1_inb numel1_S1 pf i = ![(blockWord (word (F := F) (pf 0) i 2)).toNat, 0]
    ∧ cc1_transform_4 k1_off1_inb numel1_S1 pf i = ![(blockWord (word (F := F) (pf 0) i 3)).toNat, 0]
    ∧ cc1_transform_5 k1_off1_inb numel1_S1 pf i = ![(blockWord (word (F := F) (pf 0) i 4)).toNat, 0]
    ∧ cc1_transform_6 k1_off1_inb numel1_S1 pf i = ![(blockWord (word (F := F) (pf 0) i 5)).toNat, 0]
    ∧ cc1_transform_7 k1_off1_inb numel1_S1 pf i = ![(blockWord (word (F := F) (pf 0) i 6)).toNat, 0]
    ∧ cc1_transform_8 k1_off1_inb numel1_S1 pf i = ![(blockWord (word (F := F) (pf 0) i 7)).toNat, 0] :=
  ⟨rfl, rfl, rfl, rfl, rfl, rfl, rfl, rfl⟩

/-- A block of eight rows that holds a row in range lies in the array. -/
theorem block_in {v : BitVec 32} (h : v.toNat < 1000000) (a : Fin 2) :
    ((![(blockWord v).toNat, 0] : Fin 2 → Nat) a + 1) * S8x64.size a ≤ S1000000x64.size a := by
  fin_cases a
  · show ((blockWord v).toNat + 1) * 8 ≤ 1000000
    rw [blockWord_eq h]; omega
  · show (0 + 1) * 64 ≤ 64
    omega

/-- A table of row numbers in range is admissible. -/
theorem ok_of (pf : pre1.Contents (Elt F)) (h : ∀ i j, (word (F := F) (pf 0) i j).toNat < 1000000) : ok1 pf := by
  unfold ok1
  have t := fun i => transform_eq (F := F) pf i
  refine ⟨fun i => ⟨fun a => ?_, .inl rfl⟩, fun i => ⟨fun a => ?_, .inl rfl⟩, fun i => ⟨fun a => ?_, .inl rfl⟩, fun i => ⟨fun a => ?_, .inl rfl⟩,
    fun i => ⟨fun a => ?_, .inl rfl⟩, fun i => ⟨fun a => ?_, .inl rfl⟩, fun i => ⟨fun a => ?_, .inl rfl⟩, fun i => ⟨fun a => ?_, .inl rfl⟩⟩
  · rw [(t i).1]; exact block_in (h i 0) a
  · rw [(t i).2.1]; exact block_in (h i 1) a
  · rw [(t i).2.2.1]; exact block_in (h i 2) a
  · rw [(t i).2.2.2.1]; exact block_in (h i 3) a
  · rw [(t i).2.2.2.2.1]; exact block_in (h i 4) a
  · rw [(t i).2.2.2.2.2.1]; exact block_in (h i 5) a
  · rw [(t i).2.2.2.2.2.2.1]; exact block_in (h i 6) a
  · rw [(t i).2.2.2.2.2.2.2]; exact block_in (h i 7) a

end Cert.Proof.Mem

end
-- ==== Proof.Mem.ScanProg.lean ====
/-
  The scan body as a program over any signature, its payloads as parameters, and what it leaves in the two
  running lists: the three printed programs that hold a scan body (the whole kernel's and the scan call's own) share it.
-/
module

public import proofs.«01_k».proof.Proof.Mem.Rules
public import proofs.«01_k».proof.Proof.Gen.KernelIdeal
public import proofs.«01_k».proof.Proof.Gen.KernelIdeal.Skeleton

@[expose] public section

noncomputable section

namespace Cert.Proof.Mem

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Cert.KernelIdeal Cert.KernelIdeal.Gen

/-- The rectangle of the running list's last column. -/
abbrev lastCol : Rect S16x8 := Rect.unit (s := S16x8) ![0, 7] S16x1.size inb_S16x8_S16x1_0_7

/-- The whole of a running list. -/
abbrev wholeList : Rect S16x8 := Rect.unit (s := S16x8) ![0, 0] S16x8.size inb_S16x8_S16x8_0_0

/-- The scan body's payloads: the initial lists, the gate on the last column, the new lists. -/
structure ScanPay (F : FTy → Type) [FloatOps F] [Named F] where
  initV : Vec F S16x8 .f32
  initI : Vec F S16x8 .i32
  gate : Vec F S16x64 .f32 → Vec F S20000x64 .f32 → Vec F S16x1 .f32 → BitVec 1
  newV : Vec F S16x64 .f32 → Vec F S20000x64 .f32 → Vec F S16x8 .f32 → Vec F S16x8 .i32 → Vec F S16x8 .f32
  newI : Vec F S16x64 .f32 → Vec F S20000x64 .f32 → Vec F S16x8 .f32 → Vec F S16x8 .i32 → Vec F S16x8 .i32

/-- The running lists as the body finds them after its possible reset. -/
def ScanPay.start (P : ScanPay F) (first : BitVec 1) (tv : Vec F S16x8 .f32) (ti : Vec F S16x8 .i32) :
    Vec F S16x8 .f32 × Vec F S16x8 .i32 := if first = 1#1 then (P.initV, P.initI) else (tv, ti)

/-- What the body leaves in the running lists. -/
def ScanPay.next (P : ScanPay F) (first : BitVec 1) (x : Vec F S16x64 .f32) (kb : Vec F S20000x64 .f32)
    (tv : Vec F S16x8 .f32) (ti : Vec F S16x8 .i32) : Vec F S16x8 .f32 × Vec F S16x8 .i32 :=
  if P.gate x kb (View.ld (P.start first tv ti).1 lastCol) = 1#1 then
    (P.newV x kb (P.start first tv ti).1 (P.start first tv ti).2, P.newI x kb (P.start first tv ti).1 (P.start first tv ti).2)
  else P.start first tv ti

section Prog

variable {nD : Nat} {τ : Topo} {sig : RefSig} {Λ : Labels}

/-- The scan body. -/
def scanProg (P : ScanPay F) (first : BitVec 1) (a1 : Memref sig .tc .vmem S16x64 .f32) (a2 : Memref sig .tc .vmem S20000x64 .f32)
    (a3 : Memref sig .tc .vmem S16x8 .f32) (a4 : Memref sig .tc .vmem S16x8 .i32) : Prog (TpuEff nD τ sig (Elt F) Λ .tc) PUnit := do
  let x : Vec F S16x64 .f32 ← Prog.lift (.load a1 (Rect.unit (s := S16x64) ![0, 0] S16x64.size inb_S16x64_S16x64_0_0).toLoadRect (View.loadsAt_vmem h_S16x64))
  let kb : Vec F S20000x64 .f32 ← Prog.lift (.load a2 (Rect.unit (s := S20000x64) ![0, 0] S20000x64.size inb_S20000x64_S20000x64_0_0).toLoadRect (View.loadsAt_vmem h_S20000x64))
  if first = 1#1 then do
    let _ : Vec F S16x8 .f32 ← Prog.lift (.load a3 wholeList.toLoadRect (View.loadsAt_vmem h_S16x8))
    Prog.lift (.store a3 wholeList P.initV Finset.univ (View.stores_vmem_bits_univ h_S16x8 rfl) (.inl rfl))
    let _ : Vec F S16x8 .i32 ← Prog.lift (.load a4 wholeList.toLoadRect (View.loadsAt_vmem h_S16x8))
    Prog.lift (.store a4 wholeList P.initI Finset.univ (View.stores_vmem_bits_univ h_S16x8 rfl) (.inl rfl))
    pure ⟨⟩
  else do
    pure ⟨⟩
  let col : Vec F S16x1 .f32 ← Prog.lift (.load a3 lastCol.toLoadRect (View.loadsAt_vmem h_S16x1))
  if P.gate x kb col = 1#1 then do
    let tv : Vec F S16x8 .f32 ← Prog.lift (.load a3 wholeList.toLoadRect (View.loadsAt_vmem h_S16x8))
    let ti : Vec F S16x8 .i32 ← Prog.lift (.load a4 wholeList.toLoadRect (View.loadsAt_vmem h_S16x8))
    let _ : Vec F S16x8 .f32 ← Prog.lift (.load a3 wholeList.toLoadRect (View.loadsAt_vmem h_S16x8))
    Prog.lift (.store a3 wholeList (P.newV x kb tv ti) Finset.univ (View.stores_vmem_bits_univ h_S16x8 rfl) (.inl rfl))
    let _ : Vec F S16x8 .i32 ← Prog.lift (.load a4 wholeList.toLoadRect (View.loadsAt_vmem h_S16x8))
    Prog.lift (.store a4 wholeList (P.newI x kb tv ti) Finset.univ (View.stores_vmem_bits_univ h_S16x8 rfl) (.inl rfl))
    pure ⟨⟩
  else do
    pure ⟨⟩
  pure ⟨⟩

variable {Ix : Type} [DecidableEq Ix] {Name : Type} [DecidableEq Name] {U : Type} [URA U] {Lvl : Type} [Preorder Lvl]
variable {defs : Defs nD τ sig (Elt F) Λ} (𝒱 : Variants) (c : Dev nD)

local notation "𝕄" => MT nD τ sig Ix (Elt F) Name U Lvl

/-- The scan body, its four memrefs owned: the query rows and the key rows stay, the running lists become `next`. -/
theorem scanProg_sound (P : ScanPay F) (first : BitVec 1) (a1 : Memref sig .tc .vmem S16x64 .f32) (a2 : Memref sig .tc .vmem S20000x64 .f32)
    (a3 : Memref sig .tc .vmem S16x8 .f32) (a4 : Memref sig .tc .vmem S16x8 .i32)
    (x : Vec F S16x64 .f32) (kb : Vec F S20000x64 .f32) (tv : Vec F S16x8 .f32) (ti : Vec F S16x8 .i32) :
    (iprop(owns (c : Thread nD τ) a1 fullShare x ∗ owns (c : Thread nD τ) a2 fullShare kb
        ∗ owns (c : Thread nD τ) a3 fullShare tv ∗ owns (c : Thread nD τ) a4 fullShare ti) : sProp 𝕄)
      ⊢ wp frame (wpE defs 𝒱 (c : Thread nD τ) none) Set.univ (scanProg P first a1 a2 a3 a4) fun _ =>
        iprop(owns (c : Thread nD τ) a1 fullShare x ∗ owns (c : Thread nD τ) a2 fullShare kb
          ∗ owns (c : Thread nD τ) a3 fullShare (P.next first x kb tv ti).1 ∗ owns (c : Thread nD τ) a4 fullShare (P.next first x kb tv ti).2) := by
  unfold scanProg ScanPay.next ScanPay.start
  iintro ⟨H1, H2, H3, H4⟩
  simp only [Prog.bind_op, Prog.bind_ret, Prog.pure_eq_ret, Prog.lift, bind]
  iapply (wp_load_owned 𝒱 (c : Thread nD τ)) $$ H1; iintro H1
  iapply (wp_load_owned 𝒱 (c : Thread nD τ)) $$ H2; iintro H2
  simp only [View.ld_unit_zero (S := S16x64) zero2, View.ld_unit_zero (S := S20000x64) zero2]
  by_cases hf : first = 1#1
  · simp only [hf, ↓reduceIte, Prog.bind]
    iapply (wp_load_owned 𝒱 (c : Thread nD τ)) $$ H3; iintro H3
    iapply (wp_store_owned 𝒱 (c : Thread nD τ)) $$ H3; iintro H3
    iapply (wp_load_owned 𝒱 (c : Thread nD τ)) $$ H4; iintro H4
    iapply (wp_store_owned 𝒱 (c : Thread nD τ)) $$ H4; iintro H4
    simp only [overlay_unit_zero (S := S16x8) zero2]
    iapply (wp_load_owned 𝒱 (c : Thread nD τ)) $$ H3; iintro H3
    by_cases hg : P.gate x kb (View.ld P.initV lastCol) = 1#1
    · simp only [hg, ↓reduceIte, Prog.bind]
      iapply (wp_load_owned 𝒱 (c : Thread nD τ)) $$ H3; iintro H3
      iapply (wp_load_owned 𝒱 (c : Thread nD τ)) $$ H4; iintro H4
      iapply (wp_load_owned 𝒱 (c : Thread nD τ)) $$ H3; iintro H3
      iapply (wp_store_owned 𝒱 (c : Thread nD τ)) $$ H3; iintro H3
      iapply (wp_load_owned 𝒱 (c : Thread nD τ)) $$ H4; iintro H4
      iapply (wp_store_owned 𝒱 (c : Thread nD τ)) $$ H4; iintro H4
      simp only [overlay_unit_zero (S := S16x8) zero2, View.ld_unit_zero (S := S16x8) zero2, wp_ret]
      imodintro
      isplitl [H1]; · iexact H1
      isplitl [H2]; · iexact H2
      isplitl [H3]; · iexact H3
      iexact H4
    · simp only [hg, ↓reduceIte, Prog.bind, wp_ret]
      imodintro
      isplitl [H1]; · iexact H1
      isplitl [H2]; · iexact H2
      isplitl [H3]; · iexact H3
      iexact H4
  · simp only [hf, ↓reduceIte, Prog.bind]
    iapply (wp_load_owned 𝒱 (c : Thread nD τ)) $$ H3; iintro H3
    by_cases hg : P.gate x kb (View.ld tv lastCol) = 1#1
    · simp only [hg, ↓reduceIte, Prog.bind]
      iapply (wp_load_owned 𝒱 (c : Thread nD τ)) $$ H3; iintro H3
      iapply (wp_load_owned 𝒱 (c : Thread nD τ)) $$ H4; iintro H4
      iapply (wp_load_owned 𝒱 (c : Thread nD τ)) $$ H3; iintro H3
      iapply (wp_store_owned 𝒱 (c : Thread nD τ)) $$ H3; iintro H3
      iapply (wp_load_owned 𝒱 (c : Thread nD τ)) $$ H4; iintro H4
      iapply (wp_store_owned 𝒱 (c : Thread nD τ)) $$ H4; iintro H4
      simp only [overlay_unit_zero (S := S16x8) zero2, View.ld_unit_zero (S := S16x8) zero2, wp_ret]
      imodintro
      isplitl [H1]; · iexact H1
      isplitl [H2]; · iexact H2
      isplitl [H3]; · iexact H3
      iexact H4
    · simp only [hg, ↓reduceIte, Prog.bind, wp_ret]
      imodintro
      isplitl [H1]; · iexact H1
      isplitl [H2]; · iexact H2
      isplitl [H3]; · iexact H3
      iexact H4

end Prog

end Cert.Proof.Mem

end
-- ==== Proof.Mem.ScanPay.lean ====
/-
  The scan body's payloads in a few functions: the block's scores, the gate, and the merge of a block's scores with the
  running lists in eight rounds (the greatest value, the least index among its places, that place struck out).
  The printed body is the program `scanProg` at these payloads, by unfolding.
-/
module

public import proofs.«01_k».proof.Proof.Mem.ScanProg

@[expose] public section

noncomputable section

namespace Cert.Proof.Mem

open Idealize.ShloMosaic Idealize.ShloMosaic.TcCoe
open Idealize.SL.Sem

variable {F : FTy → Type} [FloatOps F] [Named F]

open Cert.KernelIdeal Cert.KernelIdeal.Gen

/-- The query rows normalised in groups of four, halved. -/
def kq (x : Vec F S16x64 .f32) : FVec F S16x64 .f32 := k0_pay55 x (k0_pay50 x) k0_pay51 k0_pay52 k0_pay53 k0_pay54

/-- The sums of squares of a block's key rows, each at every place of its group of four. -/
def kgs (kb : Vec F S20000x64 .f32) : FVec F S20000x64 .f32 :=
  k0_pay59 kb (iota .tc S64x64 32 [0] iota_S64x64_d0_w32) 4#32 k0_pay56 k0_pay57 k0_pay58

/-- The scores of the queries against a block of keys. -/
def kscore (x : Vec F S16x64 .f32) (kb : Vec F S20000x64 .f32) : FVec F S16x20000 .f32 := k0_pay1 (kq x) kb (kgs kb)

/-- The gate: some query has a score above the last of its running list. -/
def kgate (x : Vec F S16x64 .f32) (kb : Vec F S20000x64 .f32) (col : Vec F S16x1 .f32) : BitVec 1 :=
  Scalar.cmpi .ne (Scalar.extui (Scalar.cmpf .ogt (k0_pay5 (kq x) kb (kgs kb) col) (Scalar.ofBits .f32 0x00000000#32)) : BitVec 32) 0#32

/-- A round's greatest candidate of every row. -/
def roundMax (cv : FVec F S16x20008 .f32) : FVec F S16 .f32 :=
  multiReduction .maximumf [1] S16 cv 0xFF800000#32 reduces_S16x20008_S16 (.inl rfl) rfl

/-- The places that hold it. -/
def roundSel (cv : FVec F S16x20008 .f32) : IVec S16x20008 1 :=
  cmpf .oeq cv (broadcastTo S16x20008 (shapeCast S16x1 (roundMax cv) shapeCasts_S16_S16x1) broadcasts_S16x1_S16x20008)

/-- The least index among them. -/
def roundIdx (ci : IVec S16x20008 32) (cv : FVec F S16x20008 .f32) : IVec S16 32 :=
  multiReductionI .minsi [1] S16 (select (roundSel cv) ci (broadcast S16x20008 2147483647#32)) 2147483647#32 reduces_S16x20008_S16 rfl

/-- The candidates with the round's place struck out. -/
def roundNext (ci : IVec S16x20008 32) (cv : FVec F S16x20008 .f32) : FVec F S16x20008 .f32 :=
  select (andi (roundSel cv) (cmpi .eq ci (broadcastTo S16x20008 (shapeCast S16x1 (roundIdx ci cv) shapeCasts_S16_S16x1) broadcasts_S16x1_S16x20008)))
    (broadcast S16x20008 (Scalar.ofBits .f32 0xFF800000#32)) cv

/-- The candidates before round `k`. -/
def cand (ci : IVec S16x20008 32) (cv : FVec F S16x20008 .f32) : ℕ → FVec F S16x20008 .f32
  | 0 => cv
  | k + 1 => roundNext ci (cand ci cv k)

/-- A column of a list set. -/
def putCol {α : Type} (k : BitVec 32) (v : S16.Idx → α) (acc : S16x8.Idx → α) : S16x8.Idx → α :=
  select (cmpi .eq (iota .tc S16x8 32 [1] iota_S16x8_d1_w32) (broadcast S16x8 k))
    (broadcastTo S16x8 (shapeCast S16x1 (shapeCast S16x1 v shapeCasts_S16_S16x1) shapeCasts_S16x1_S16x1) broadcasts_S16x1_S16x8) acc

/-- The list of eight columns over a start. -/
def cols8 {α : Type} (v : ℕ → S16.Idx → α) (acc : S16x8.Idx → α) : S16x8.Idx → α :=
  putCol 7#32 (v 7) (putCol 6#32 (v 6) (putCol 5#32 (v 5) (putCol 4#32 (v 4) (putCol 3#32 (v 3) (putCol 2#32 (v 2)
    (putCol 1#32 (v 1) (putCol 0#32 (v 0) acc)))))))

/-- The payloads of the scan body at the block whose number is `arg0`. -/
def scanPay (arg0 : BitVec 32) : ScanPay F where
  initV := k0_pay3
  initI := k0_pay4
  gate := kgate
  newV x kb tv ti := cols8 (fun k => roundMax (cand (k0_pay9 (k0_pay2 arg0) ti) (k0_pay8 (kscore x kb) tv) k))
    (broadcast S16x8 (Scalar.ofBits .f32 0xFF800000#32))
  newI x kb tv ti := cols8 (fun k => roundIdx (k0_pay9 (k0_pay2 arg0) ti) (cand (k0_pay9 (k0_pay2 arg0) ti) (k0_pay8 (kscore x kb) tv) k))
    (broadcast S16x8 2147483647#32)

/-- Is the block the first? -/
def firstBit (arg0 : BitVec 32) : BitVec 1 := Scalar.cmpi .ne (Scalar.extui (Scalar.cmpi .eq arg0 0#32) : BitVec 32) 0#32

set_option maxRecDepth 65536 in
/-- The whole kernel's scan body is the program at these payloads. -/
theorem kernel_body_eq (i : grid0.Coords) (a1 : Memref sig .tc .vmem S16x64 .f32) (h1 : a1.IsWhole) (a2 : Memref sig .tc .vmem S20000x64 .f32) (h2 : a2.IsWhole)
    (a3 : Memref sig .tc .vmem S16x8 .f32) (h3 : a3.IsWhole) (a4 : Memref sig .tc .vmem S16x8 .i32) (h4 : a4.IsWhole) :
    cc0__scan_body (F := F) i a1 h1 a2 h2 a3 h3 a4 h4
      = scanProg (scanPay (BitVec.ofNat 32 (i 0).val)) (firstBit (BitVec.ofNat 32 (i 0).val)) a1 a2 a3 a4 := rfl

end Cert.Proof.Mem

end
-- ==== Proof.Mem.ScanData.lean ====
/-
  The whole kernel's first region: what each window's buffer holds when the body ends at a point, and the body's
  obligation at every point.
-/
module

public import proofs.«01_k».proof.Proof.Mem.ScanPay
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.FrameBody

@[expose] public section

noncomputable section

namespace Cert.Proof.Mem

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F] [Named F]

/-- The user algebra: the pipeline library's alone. -/
abbrev UK : Type := UR sig nD τ

local notation "𝕄" => MT nD τ sig Unit (Elt F) ℕ UK ℕ

variable (m : (ℓ : Loc nD τ sig) → Buf (Elt F) ℓ) (c : Dev nD)

/-- The first region's arrays as it finds them: as launched. -/
def scanA (w : Fin cfg0.W) : Buf (Elt F) ((cfg0.win w).arr.view.loc (c.tc : Thread nD τ)) := V0 m c (Pipeline.arrRef spec0 w)

/-- The queries as the body reads them at point `t`. -/
def scanX (t : Fin cfg0.N) : Vec F S16x64 .f32 := ((cfg0.win 0).blk t).view.read (Elt F) (scanA m c 0)

/-- The block of keys the body reads at point `t`. -/
def scanK (t : Fin cfg0.N) : Vec F S20000x64 .f32 := ((cfg0.win 1).blk t).view.read (Elt F) (scanA m c 1)

theorem cfg0_N : cfg0.N = 50 := N_0

/-- Point `n`, counted round the grid. -/
def pt50 (n : ℕ) : Fin cfg0.N := ⟨n % 50, by rw [cfg0_N]; exact Nat.mod_lt _ (by decide)⟩

theorem pt50_val (t : Fin cfg0.N) : pt50 t.val = t :=
  Fin.ext (Nat.mod_eq_of_lt (cfg0_N ▸ t.isLt))

/-- The grid coordinate of a point as the body's word. -/
abbrev scanWord (t : Fin cfg0.N) : BitVec 32 := BitVec.ofNat 32 (grid0.coords t 0).val

/-- The running lists after point `n`. -/
def runs : ℕ → Vec F S16x8 .f32 × Vec F S16x8 .i32
  | 0 => (scanPay (scanWord (pt50 0))).next (firstBit (scanWord (pt50 0))) (scanX m c (pt50 0)) (scanK m c (pt50 0)) k0_pay3 k0_pay4
  | n + 1 => (scanPay (scanWord (pt50 (n + 1)))).next (firstBit (scanWord (pt50 (n + 1)))) (scanX m c (pt50 (n + 1))) (scanK m c (pt50 (n + 1)))
      (runs n).1 (runs n).2

/-- The first region's proof data. -/
def scanDat : Dat τ (Elt F) Unit ℕ UK ℕ cfg0 c where
  A := scanA m c
  after w t := match w with
    | ⟨0, _⟩ => scanX m c t
    | ⟨1, _⟩ => scanK m c t
    | ⟨2, _⟩ => (runs m c t.val).1
    | ⟨3, _⟩ => (runs m c t.val).2
  Φ _ := Pipeline.scopedRest (Ix := Unit) (Name := ℕ) (U := UK) (Lvl := ℕ) (Val := Elt F) spec0 c
  q _ := fullShare
  owed _ := 0

/-- At the first point nothing of the lists found is kept. -/
theorem next_first (P : ScanPay F) (x : Vec F S16x64 .f32) (kb : Vec F S20000x64 .f32) (tv tv' : Vec F S16x8 .f32) (ti ti' : Vec F S16x8 .i32)
    {first : BitVec 1} (h : first = 1#1) : P.next first x kb tv ti = P.next first x kb tv' ti' := by
  unfold ScanPay.next ScanPay.start
  simp only [h, if_true]

theorem scan_before0 (t : Fin cfg0.N) (d : (cfg0.win 0).block.Idx → Elt F (cfg0.win 0).elt) : (scanDat m c).before 0 t d = scanX m c t :=
  ((scanDat m c).before_in_eq_fetched 0 rfl (fun _ => rfl) (fun _ _ _ => rfl) (fun _ => rfl) t d).trans
    (((scanDat m c).fetched_of_clip_none 0 t (fun _ => rfl) d (scanX m c t)).trans ((cfg0.win 0).fill_cut (cfg0.grid.coords t) _))

theorem scan_before1 (t : Fin cfg0.N) (d : (cfg0.win 1).block.Idx → Elt F (cfg0.win 1).elt) : (scanDat m c).before 1 t d = scanK m c t :=
  ((scanDat m c).before_in_eq_fetched 1 rfl (fun _ => rfl) (fun _ _ _ => rfl) (fun _ => rfl) t d).trans
    (((scanDat m c).fetched_of_clip_none 1 t (fun _ => rfl) d (scanK m c t)).trans ((cfg0.win 1).fill_cut (cfg0.grid.coords t) _))

/-- At the grid's first point the body resets the lists. -/
theorem firstBit_zero : firstBit (scanWord (pt50 0)) = 1#1 := by decide

/-- The lists before a later point are what the point before it left. -/
theorem scan_before2 (t : Fin cfg0.N) (ht : t.val ≠ 0) (d : (cfg0.win 2).block.Idx → Elt F (cfg0.win 2).elt) :
    (scanDat m c).before 2 t d = (runs m c (t.val - 1)).1 :=
  (scanDat m c).before_out_kept 2 rfl t ht
    (by
      rw [← Bool.not_eq_true, flush0_2]
      have : t.val < 50 := lt_of_lt_of_eq t.isLt cfg0_N
      show ¬ ((t.val - 1) % 50 = 49)
      omega) (fun _ => rfl) (fun _ _ => rfl) d

theorem scan_before3 (t : Fin cfg0.N) (ht : t.val ≠ 0) (d : (cfg0.win 3).block.Idx → Elt F (cfg0.win 3).elt) :
    (scanDat m c).before 3 t d = (runs m c (t.val - 1)).2 :=
  (scanDat m c).before_out_kept 3 rfl t ht
    (by
      rw [← Bool.not_eq_true, flush0_3]
      have : t.val < 50 := lt_of_lt_of_eq t.isLt cfg0_N
      show ¬ ((t.val - 1) % 50 = 49)
      omega) (fun _ => rfl) (fun _ _ => rfl) d

/-- What the body makes at a point of what it finds there is the lists after that point. -/
theorem scan_step (t : Fin cfg0.N) (d2 : (cfg0.win 2).block.Idx → Elt F (cfg0.win 2).elt) (d3 : (cfg0.win 3).block.Idx → Elt F (cfg0.win 3).elt) :
    (scanPay (scanWord t)).next (firstBit (scanWord t)) (scanX m c t) (scanK m c t) ((scanDat m c).before 2 t d2) ((scanDat m c).before 3 t d3)
      = runs m c t.val := by
  by_cases ht : t.val = 0
  · have e : t = pt50 0 := by rw [← ht, pt50_val]
    rw [ht]
    subst e
    exact next_first _ _ _ _ _ _ _ firstBit_zero
  · rw [scan_before2 m c t ht, scan_before3 m c t ht]
    obtain ⟨n, hn⟩ := Nat.exists_eq_succ_of_ne_zero ht
    rw [hn]
    show _ = (scanPay (scanWord (pt50 (n + 1)))).next (firstBit (scanWord (pt50 (n + 1)))) (scanX m c (pt50 (n + 1))) (scanK m c (pt50 (n + 1)))
      (runs m c n).1 (runs m c n).2
    rw [show pt50 (n + 1) = t from by rw [← Nat.succ_eq_add_one, ← hn, pt50_val]]
    rfl

/-- The body at a point is the program at that point's payloads. -/
theorem scan_body_at (t : Fin cfg0.N) : (defs₀ (F := F)) .tc cfg0.body (cfg0.bodyArgs t (cfg0.slots t))
    = scanProg (scanPay (scanWord t)) (firstBit (scanWord t)) (st0_0 t) (st0_1 t) (st0_2 t) (st0_3 t) :=
  kernel_body_eq (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))

/-- The body's obligation at every point of the first region. -/
theorem scan_obligation : BodyObligation (scanDat m c) (defs₀ (F := F)) Variants.none () Set.univ := fun t => by
  rw [bigSep_W0, bigSep_W0, scan_body_at, show (scanDat m c).Φ t.succ = (scanDat m c).Φ t.castSucc from rfl,
    show (scanDat m c).owesAt () t.succ = (scanDat m c).owesAt () t.castSucc from rfl]
  iintro ⟨HΦ, HO, ⟨%d0, H0⟩, ⟨%d1, H1⟩, ⟨%d2, H2⟩, ⟨%d3, H3⟩⟩
  rw [scan_before0, scan_before1]
  iapply (wp_wand_r frame (wpE (defs₀ (F := F)) Variants.none (c : Thread nD τ) none))
  isplitl [H0 H1 H2 H3]
  · iapply (scanProg_sound Variants.none c (scanPay (scanWord t)) (firstBit (scanWord t)) (st0_0 t) (st0_1 t) (st0_2 t) (st0_3 t)
      (scanX m c t) (scanK m c t) ((scanDat m c).before 2 t d2) ((scanDat m c).before 3 t d3))
    isplitl [H0]; · iexact H0
    isplitl [H1]; · iexact H1
    isplitl [H2]; · iexact H2
    iexact H3
  iintro %_ ⟨H0, H1, H2, H3⟩
  rw [scan_step]
  isplitl [HΦ]; · iexact HΦ
  isplitl [HO]; · iexact HO
  isplitl [H0]; · iexact H0
  isplitl [H1]; · iexact H1
  isplitl [H2]; · iexact H2
  iexact H3

end Cert.Proof.Mem

end
-- ==== Proof.Mem.ReadData.lean ====
/-
  The whole kernel's second region, at any table of row numbers in range: what the windows hold, which rows of the
  output are known after a point, and the body's obligation at every point.
-/
module

public import proofs.«01_k».proof.Proof.Mem.Words
public import proofs.«01_k».proof.Proof.Mem.ScanData
public import Idealize.ShloMosaic.Lib.Pipeline.DatRel

@[expose] public section

noncomputable section

namespace Cert.Proof.Mem

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)
open Cert.KernelIdeal Cert.KernelIdeal.Gen

variable {F : FTy → Type} [FloatOps F] [Named F]

local notation "𝕄" => MT nD τ sig Unit (Elt F) ℕ UK ℕ

/-- Every word of the table names a key. -/
def InRange (T : Vec F S128 .i32) : Prop := ∀ (i : grid1.Coords) (j : Fin 8), (word (F := F) T i j).toNat < 1000000

/-- The table as the region's prefetched contents. -/
def tblOf (T : Vec F S128 .i32) : pre1.Contents (Elt F) := fun
  | ⟨0, _⟩ => T

/-- A table in range is one the region admits. -/
def admOf (T : Vec F S128 .i32) (hT : InRange T) : (pcfg1 (F := F)).Adm := ⟨tblOf T, ok_of (tblOf T) hT⟩

variable (T : Vec F S128 .i32) (hT : InRange T) (V : (c : Dev nD) → Valuation τ sig (Elt F)) (c : Dev nD)

/-- The region's pipeline at the table. -/
abbrev cfgR : Cfg sig Λ₀ := cfg1 (F := F) (admOf T hT)

/-- The arrays as the region finds them. -/
def readA (w : Fin (cfgR T hT).W) : Buf (Elt F) (((cfgR T hT).win w).arr.view.loc (c.tc : Thread nD τ)) := V c (Pipeline.arrRef spec1 w)

/-- A window's block at a point. -/
def readB (w : Fin (cfgR T hT).W) (t : Fin (cfgR T hT).N) : ((cfgR T hT).win w).block.Idx → Elt F ((cfgR T hT).win w).elt :=
  (((cfgR T hT).win w).blk t).view.read (Elt F) (readA T hT V c w)

/-- The eight key blocks read at a point. -/
def keyB (t : Fin (cfgR T hT).N) : Fin 8 → Vec F S8x64 .f32
  | 0 => readB T hT V c 1 t
  | 1 => readB T hT V c 2 t
  | 2 => readB T hT V c 3 t
  | 3 => readB T hT V c 4 t
  | 4 => readB T hT V c 5 t
  | 5 => readB T hT V c 6 t
  | 6 => readB T hT V c 7 t
  | 7 => readB T hT V c 8 t

/-- The scores read at a point. -/
def topB (t : Fin (cfgR T hT).N) : Vec F S16x8 .f32 := readB T hT V c 0 t

include hT in
/-- The eight checks hold of a table in range. -/
theorem chk_of (i : grid1.Coords) (j : Fin 8) : k1_chk1 (word (F := F) T i j) := chk1_of (hT i j)

/-- The row written at a point. -/
def rowAt (t : Fin (cfgR T hT).N) : Vec F S1x64 .f32 :=
  mix (View.ld (topB T hT V c t) (scoreRect (grid1.coords t)))
    fun j => View.ld (keyB T hT V c t j) (rowRect (word (F := F) T (grid1.coords t) j) (chk_of T hT (grid1.coords t) j))

/-- After point `t`, the rows up to `t` of the output are the rows written. -/
def Known (t : Fin (cfgR T hT).N) (X : Vec F S16x64 .f32) : Prop :=
  ∀ s : Fin (cfgR T hT).N, s ≤ t → ∀ k : S1x64.Idx, X ((outRect (grid1.coords s)).emb k) = rowAt T hT V c s k

/-- The output is the one window of which only this much is known. -/
def marked (w : Fin (cfgR T hT).W) : Bool := decide (w.val = 9)

/-- What is known of it. -/
def readRel (w : Fin (cfgR T hT).W) (t : Fin (cfgR T hT).N) (X : ((cfgR T hT).win w).block.Idx → Elt F ((cfgR T hT).win w).elt) : Prop :=
  match w, X with
  | ⟨9, _⟩, X => Known T hT V c t X
  | _, _ => True

/-- The second region's proof data. -/
def readDat : Dat τ (Elt F) Unit ℕ UK ℕ (cfgR T hT) c where
  A := readA T hT V c
  after w t := readB T hT V c w t
  Φ _ := iprop(Pipeline.scopedRest (Ix := Unit) (Name := ℕ) (U := UK) (Lvl := ℕ) (Val := Elt F) spec1 c
    ∗ owns (c : Thread nD τ) (Memref.whole main_v1) fullShare T)
  q w := Pipeline.shareOf spec1 w
  owed _ := 0

theorem cfgR_N : (cfgR T hT).N = 16 := N_1

/-- An input window holds its block. -/
theorem read_before (w : Fin (cfgR T hT).W) (hw : ((cfgR T hT).win w).isOut = false)
    (t : Fin (cfgR T hT).N) (d : ((cfgR T hT).win w).block.Idx → Elt F ((cfgR T hT).win w).elt) :
    (readDat T hT V c).before w t d = readB T hT V c w t :=
  ((readDat T hT V c).before_in_eq_fetched w hw (fun _ => rfl) (fun _ _ _ => rfl) (fun _ => rfl) t d).trans
    (((readDat T hT V c).fetched_of_clip_none w t (fun _ => rfl) d (readB T hT V c w t)).trans (((cfgR T hT).win w).fill_cut ((cfgR T hT).grid.coords t) _))

/-- The grid's coordinate of a point is its number. -/
theorem coord1_val (t : Fin grid1.N) : (grid1.coords t 0).val = t.val := by
  revert t; decide +kernel

/-- Overlaying a point's row keeps what was known and adds that row. -/
theorem known_step (t : Fin (cfgR T hT).N) (o : Vec F S16x64 .f32)
    (ho : ∀ s : Fin (cfgR T hT).N, s < t → ∀ k : S1x64.Idx, o ((outRect (grid1.coords s)).emb k) = rowAt T hT V c s k) :
    Known T hT V c t ((outRect (grid1.coords t)).overlay o (rowAt T hT V c t)) := by
  intro s hs k
  rcases eq_or_lt_of_le hs with rfl | hlt
  · exact Rect.overlay_emb _ _ _ _
  · refine (Rect.overlay_of_not_mem _ _ _ ?_).trans (ho s hlt k)
    intro hm
    have h0 := (Rect.mem_set_unit.mp hm) 0
    have hk : (k 0).val < 1 := (k 0).isLt
    have e1 : (((outRect (grid1.coords s)).emb k) 0 : ℕ) = (grid1.coords s 0).val + 1 * (k 0).val := by
      rw [Rect.emb_apply]
      show k1_off18 (grid1.coords s) 0 + _ = _
      rw [k1_off18_eq]; rfl
    have e2 : k1_off18 (grid1.coords t) 0 = (grid1.coords t 0).val := by rw [k1_off18_eq]; rfl
    have ha : (grid1.coords t 0).val ≤ (grid1.coords s 0).val + 1 * (k 0).val := by rw [← e1, ← e2]; exact h0.1
    have ct := coord1_val t
    have cs := coord1_val s
    have : s.val < t.val := hlt
    omega

/-- The output is written back at the last point only, and never fetched. -/
theorem flush1_9 (t : Fin (cfgR T hT).N) : ((cfgR T hT).win 9).flush t = true ↔ t.val % 16 = 15 :=
  Pipeline.Window.flush_const ((cfgR T hT).win 9) rfl (fun _ _ => rfl) (n := 16) N_1 rfl t

/-- What is found in the output at a point has the rows before it. -/
theorem found_known (t : Fin (cfgR T hT).N) (o : Vec F S16x64 .f32)
    (h : ((readDat T hT V c).toRRel (marked T hT) (readRel T hT V c)).Finds 9 t o) :
    ∀ s : Fin (cfgR T hT).N, s < t → ∀ k : S1x64.Idx, o ((outRect (grid1.coords s)).emb k) = rowAt T hT V c s k := by
  intro s hs k
  have hs' : s.val < t.val := hs
  have hN : t.val < 16 := lt_of_lt_of_eq t.isLt (cfgR_N T hT)
  rcases (RDat.finds_of_pos _ (((cfgR T hT).win 9).fetch_out rfl t) (by omega) o).mp h with hf | hl
  · have := (flush1_9 T hT _).mp hf
    dsimp only at this
    omega
  · have hk : Known T hT V c ⟨t.val - 1, _⟩ o := (readDat T hT V c).toRRel_leaves (w := 9) rfl hl
    exact hk s (by show s.val ≤ t.val - 1; omega) k

/-- A window's staging buffer at a point. -/
abbrev stR (t : Fin (cfgR T hT).N) (w : Fin (cfgR T hT).W) := ((cfgR T hT).win w).stage ((cfgR T hT).slots t w)

/-- The body at a point is the program. -/
theorem read_body_at (t : Fin (cfgR T hT).N) : (defs₀ (F := F)) .tc (cfgR T hT).body ((cfgR T hT).bodyArgs t ((cfgR T hT).slots t))
    = readProg (grid1.coords t) (Memref.whole main_v1) (stR T hT t 0) (stR T hT t 1) (stR T hT t 2) (stR T hT t 3) (stR T hT t 4)
        (stR T hT t 5) (stR T hT t 6) (stR T hT t 7) (stR T hT t 8) (stR T hT t 9) := by
  have e := kernel_read_eq (F := F) (grid1.coords t) (Memref.whole main_v1) (Memref.isWhole_whole _)
    (spec1_0.stage ((cfgR T hT).slots t 0)) (hstage1_0 (((cfgR T hT).slots t 0).cast nbuf1_0))
    (spec1_1.stage ((cfgR T hT).slots t 1)) (hstage1_1 (((cfgR T hT).slots t 1).cast nbuf1_1))
    (spec1_2.stage ((cfgR T hT).slots t 2)) (hstage1_2 (((cfgR T hT).slots t 2).cast nbuf1_2))
    (spec1_3.stage ((cfgR T hT).slots t 3)) (hstage1_3 (((cfgR T hT).slots t 3).cast nbuf1_3))
    (spec1_4.stage ((cfgR T hT).slots t 4)) (hstage1_4 (((cfgR T hT).slots t 4).cast nbuf1_4))
    (spec1_5.stage ((cfgR T hT).slots t 5)) (hstage1_5 (((cfgR T hT).slots t 5).cast nbuf1_5))
    (spec1_6.stage ((cfgR T hT).slots t 6)) (hstage1_6 (((cfgR T hT).slots t 6).cast nbuf1_6))
    (spec1_7.stage ((cfgR T hT).slots t 7)) (hstage1_7 (((cfgR T hT).slots t 7).cast nbuf1_7))
    (spec1_8.stage ((cfgR T hT).slots t 8)) (hstage1_8 (((cfgR T hT).slots t 8).cast nbuf1_8))
    (spec1_9.stage ((cfgR T hT).slots t 9)) (hstage1_9 (((cfgR T hT).slots t 9).cast nbuf1_9))
  exact e

/-- The body's obligation at every point of the second region. -/
theorem read_obligation :
    BodyObligationRel (readDat T hT V c) (defs₀ (F := F)) Variants.none () Set.univ (marked T hT) (readRel T hT V c) := fun t => by
  rw [bigSep_W1, bigSep_W1, read_body_at, show (readDat T hT V c).Φ t.succ = iprop(Pipeline.scopedRest (Ix := Unit) (Name := ℕ) (U := UK) (Lvl := ℕ) (Val := Elt F) spec1 c
      ∗ owns (c : Thread nD τ) (Memref.whole main_v1) fullShare T) from rfl,
    show (readDat T hT V c).Φ t.castSucc = iprop(Pipeline.scopedRest (Ix := Unit) (Name := ℕ) (U := UK) (Lvl := ℕ) (Val := Elt F) spec1 c
      ∗ owns (c : Thread nD τ) (Memref.whole main_v1) fullShare T) from rfl,
    show (readDat T hT V c).owesAt () t.succ = (readDat T hT V c).owesAt () t.castSucc from rfl]
  simp only [show marked T hT 0 = false from rfl, show marked T hT 1 = false from rfl, show marked T hT 2 = false from rfl, show marked T hT 3 = false from rfl, show marked T hT 4 = false from rfl, show marked T hT 5 = false from rfl, show marked T hT 6 = false from rfl, show marked T hT 7 = false from rfl, show marked T hT 8 = false from rfl, show marked T hT 9 = true from rfl,
    show (cfgR T hT).idle 0 ((cfgR T hT).grid.coords t) = false from rfl, show (cfgR T hT).idle 1 ((cfgR T hT).grid.coords t) = false from rfl, show (cfgR T hT).idle 2 ((cfgR T hT).grid.coords t) = false from rfl, show (cfgR T hT).idle 3 ((cfgR T hT).grid.coords t) = false from rfl, show (cfgR T hT).idle 4 ((cfgR T hT).grid.coords t) = false from rfl, show (cfgR T hT).idle 5 ((cfgR T hT).grid.coords t) = false from rfl, show (cfgR T hT).idle 6 ((cfgR T hT).grid.coords t) = false from rfl, show (cfgR T hT).idle 7 ((cfgR T hT).grid.coords t) = false from rfl, show (cfgR T hT).idle 8 ((cfgR T hT).grid.coords t) = false from rfl,
    show (cfgR T hT).loose 0 = false from rfl, show (cfgR T hT).loose 1 = false from rfl, show (cfgR T hT).loose 2 = false from rfl, show (cfgR T hT).loose 3 = false from rfl, show (cfgR T hT).loose 4 = false from rfl, show (cfgR T hT).loose 5 = false from rfl, show (cfgR T hT).loose 6 = false from rfl, show (cfgR T hT).loose 7 = false from rfl, show (cfgR T hT).loose 8 = false from rfl]
  iintro ⟨⟨HR, HT⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%o, %ho, H9⟩⟩
  have e0 : (readDat T hT V c).before 0 t d0 = topB T hT V c t := read_before T hT V c 0 rfl t d0
  have e1 : (readDat T hT V c).before 1 t d1 = keyB T hT V c t 0 := read_before T hT V c 1 rfl t d1
  have e2 : (readDat T hT V c).before 2 t d2 = keyB T hT V c t 1 := read_before T hT V c 2 rfl t d2
  have e3 : (readDat T hT V c).before 3 t d3 = keyB T hT V c t 2 := read_before T hT V c 3 rfl t d3
  have e4 : (readDat T hT V c).before 4 t d4 = keyB T hT V c t 3 := read_before T hT V c 4 rfl t d4
  have e5 : (readDat T hT V c).before 5 t d5 = keyB T hT V c t 4 := read_before T hT V c 5 rfl t d5
  have e6 : (readDat T hT V c).before 6 t d6 = keyB T hT V c t 5 := read_before T hT V c 6 rfl t d6
  have e7 : (readDat T hT V c).before 7 t d7 = keyB T hT V c t 6 := read_before T hT V c 7 rfl t d7
  have e8 : (readDat T hT V c).before 8 t d8 = keyB T hT V c t 7 := read_before T hT V c 8 rfl t d8
  rw [e0, e1, e2, e3, e4, e5, e6, e7, e8]
  iapply (wp_wand_r frame (wpE (defs₀ (F := F)) Variants.none (c : Thread nD τ) none))
  isplitl [HT H0 H1 H2 H3 H4 H5 H6 H7 H8 H9]
  · iapply (readProg_sound Variants.none c (grid1.coords t) (Memref.whole main_v1) (stR T hT t 0) (stR T hT t 1) (stR T hT t 2)
      (stR T hT t 3) (stR T hT t 4) (stR T hT t 5) (stR T hT t 6) (stR T hT t 7) (stR T hT t 8) (stR T hT t 9) fullShare T
      (topB T hT V c t) (keyB T hT V c t) o (chk_of T hT (grid1.coords t)))
    isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %_ ⟨HT, H0, H1, H2, H3, H4, H5, H6, H7, H8, H9⟩
  isplitl [HR HT]
  · isplitl [HR]; · iexact HR
    iexact HT
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _
  isplitr
  · ipureintro
    exact known_step T hT V c t o (found_known T hT V c t o ho)
  iexact H9

end Cert.Proof.Mem

end
-- ==== Proof.Mem.KernelRun.lean ====
/-
  The whole kernel's run: the two regions' records, the reshape between them, and what every final state holds —
  given that the rows the first region finds are rows of the vault.
-/
module

public import proofs.«01_k».proof.Proof.Mem.ReadData
public import Idealize.ShloMosaic.Lib.Pipeline.RegionsLoop
public import Idealize.ShloMosaic.Lib.Pipeline.RegionArraysT
public import Idealize.ShloMosaic.Lib.Pipeline.RegionArraysF
public import Idealize.ShloMosaic.Lib.Pipeline.ArrRel

@[expose] public section

noncomputable section

namespace Cert.Proof.Mem

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)
open Cert.KernelIdeal Cert.KernelIdeal.Gen

variable {F : FTy → Type} [FloatOps F] [Named F]

local notation "𝕄" => MT nD τ sig Unit (Elt F) ℕ UK ℕ

variable (m : (ℓ : Loc nD τ sig) → Buf (Elt F) ℓ)

/-- What the first region leaves, the rest as launched. -/
def outs1 (r : Ref sig .tc) (c : Dev nD) : Buf (Elt F) ((c : Thread nD τ).loc r) :=
  (Function.update (Function.update (V0 m c) main_v0_0 (runs m c 49).1) main_v0_1 (runs m c 49).2 : Valuation τ sig (Elt F)) r

/-- The buffers the second region finds. -/
def VR (c : Dev nD) : Valuation τ sig (Elt F) := V2 m (fun _ => outs1 m) c

/-- The table the second region reads. -/
def tblR : Vec F S128 .i32 := VR m ⟨0, by decide⟩ main_v1

variable (hT : InRange (tblR m))

/-- The output the second region makes, row by row. -/
def readOut (c : Dev nD) : Vec F S16x64 .f32 := fun ix =>
  rowAt (tblR m) hT (VR m) c ⟨(ix 0).val, lt_of_lt_of_eq (ix 0).isLt (cfgR_N (tblR m) hT).symm⟩
    (fun a => match a with
      | ⟨0, _⟩ => ⟨0, Nat.one_pos⟩
      | ⟨1, _⟩ => ix 1)

/-- What the regions leave. -/
def outsK : Outs (F := F) := fun J r c =>
  match J with
  | 3 => (Function.update (V0 m c) main_v2 (readOut m hT c) : Valuation τ sig (Elt F)) r
  | _ => outs1 m r c

theorem outsK_1 (r : Ref sig .tc) (c : Dev nD) : outsK m hT 1 r c = outs1 m r c := rfl

theorem outs1_0 (c : Dev nD) : outs1 m main_v0_0 c = (runs m c 49).1 := by
  unfold outs1
  rw [Function.update_of_ne (StableHlo.devRef_ne_of_ne (by decide)), Function.update_self]

theorem outs1_1 (c : Dev nD) : outs1 m main_v0_1 c = (runs m c 49).2 := by
  unfold outs1
  rw [Function.update_self]

theorem outsK_3 (c : Dev nD) : outsK m hT 3 main_v2 c = readOut m hT c := by
  show (Function.update (V0 m c) (main_v2 : DevRef τ sig) (readOut m hT c) : Valuation τ sig (Elt F)) main_v2 = _
  rw [Function.update_self]

theorem V2_outsK (c : Dev nD) : V2 m (outsK m hT) c = VR m c := rfl

/-- The tables, one for each region. -/
def admK : (p : Fin 2) → (pcfgs (F := F) p).Adm
  | ⟨0, _⟩ => cfg0.toPCfg_adm
  | ⟨1, _⟩ => admOf (tblR m) hT

/-- The exact proof data of the two regions. -/
def pdatsK : (p : Fin 2) → (c : Dev nD) → Dat τ (Elt F) Unit ℕ UK ℕ (Pipeline.pin (pcfgs (F := F)) (admK m hT) p) c
  | ⟨0, _⟩ => fun c => scanDat m c
  | ⟨1, _⟩ => fun c => readDat (tblR m) hT (VR m) c

/-- The proof data the run takes: the second region's output held to what is known of it. -/
def rdatsK : (p : Fin 2) → (c : Dev nD) → RDat τ (Elt F) Unit ℕ UK ℕ (Pipeline.pin (pcfgs (F := F)) (admK m hT) p) c
  | ⟨0, _⟩ => fun c => (scanDat m c).toR
  | ⟨1, _⟩ => fun c => (readDat (tblR m) hT (VR m) c).toRRel (marked (tblR m) hT) (readRel (tblR m) hT (VR m) c)

/-- The core owes nothing. -/
def EK (c : Dev nD) : sProp 𝕄 := iprop(∃ W, owes (c : Thread nD τ) (0 : CellTallies nD τ sig Unit) W)

/-- No wait levels. -/
abbrev LK : GSem nD τ sig → Finset Unit := fun _ => ∅

abbrev lvK : GSem nD τ sig → Unit → ℕ := fun _ _ => 0

set_option maxRecDepth 16384 in
theorem whole0_2 : (cfg0.win 2).WholeAt (pt50 49) := by decide +kernel

set_option maxRecDepth 16384 in
theorem whole0_3 : (cfg0.win 3).WholeAt (pt50 49) := by decide +kernel

/-- The first region's arrays at its end are `V1`'s. -/
theorem scan_arr (c : Dev nD) (w : Fin cfg0.W) : (scanDat m c).arrAt w cfg0.N = V1 m (outsK m hT) c (Pipeline.arrRef spec0 w) := by
  match w with
  | ⟨0, _⟩ => exact ((scanDat m c).arrAt_in 0 rfl _).trans (V1_of m (outsK m hT) c main_arg0 (by decide)).symm
  | ⟨1, _⟩ => exact ((scanDat m c).arrAt_in 1 rfl _).trans (V1_of m (outsK m hT) c main_arg1 (by decide)).symm
  | ⟨2, _⟩ =>
    refine ((scanDat m c).arrAt_eq_of_after_last 2 (pt50 49) whole0_2 (outs1 m main_v0_0 c) fun j => ?_).trans ?_
    · rw [outs1_0]; rfl
    · show _ = (Function.update (Function.update (V0 m c) (main_v0_0 : DevRef τ sig) (outs1 m main_v0_0 c)) main_v0_1 (outs1 m main_v0_1 c) : Valuation τ sig (Elt F)) main_v0_0
      rw [Function.update_of_ne (StableHlo.devRef_ne_of_ne (by decide)), Function.update_self]
  | ⟨3, _⟩ =>
    refine ((scanDat m c).arrAt_eq_of_after_last 3 (pt50 49) whole0_3 (outs1 m main_v0_1 c) fun j => ?_).trans ?_
    · rw [outs1_1]; rfl
    · show _ = (Function.update (Function.update (V0 m c) (main_v0_0 : DevRef τ sig) (outs1 m main_v0_0 c)) main_v0_1 (outs1 m main_v0_1 c) : Valuation τ sig (Elt F)) main_v0_1
      rw [Function.update_self]

/-- Nothing and a resource beside `B`, dropped. -/
theorem drop3 (A B : sProp 𝕄) : iprop(BI.emp ∗ A ∗ B) ⊢ B := by
  iintro ⟨-, -, H⟩
  iexact H

/-- Nothing, twice, beside `B`. -/
theorem add2 (B : sProp 𝕄) : B ⊢ iprop(BI.emp ∗ BI.emp ∗ B) := by
  iintro H
  isplitr; · iempintro
  isplitr; · iempintro
  iexact H

/-- What bypasses the first region. -/
abbrev scanZ (c : Dev nD) : sProp 𝕄 := Pipeline.unscopedRest spec0 c (fun b => V0 m c b)

include hT in
/-- Into the first region: its arrays taken out of the unscoped buffers. -/
theorem scan_entry (c : Dev nD) : (unscopedBufs c (fun b => V0 m c b) : sProp 𝕄)
    ⊢ iprop((scanDat m c).arrays (scanDat m c).A ∗ scanZ m c) :=
  Pipeline.arrays_of_unscopedBufs (pcfgs (F := F)) (admK m hT) (pdatsK m hT) (p := 0) (launch0 (F := F)).win (launch0 (F := F)).arr_whole c
    (fun w => by
      match w with
      | ⟨0, _⟩ => rfl
      | ⟨1, _⟩ => rfl
      | ⟨2, _⟩ => rfl
      | ⟨3, _⟩ => rfl) (fun b => V0 m c b) (fun _ => rfl)

/-- Out of the first region: its arrays put back. -/
theorem scan_exit (c : Dev nD) : iprop((scanDat m c).arrays (fun w => (scanDat m c).arrAt w cfg0.N) ∗ scanZ m c)
    ⊢ (unscopedBufs c (fun b => V1 m (outsK m hT) c b) : sProp 𝕄) :=
  Pipeline.unscopedBufs_of_arrays (pcfgs (F := F)) (admK m hT) (p := 0) (launch0 (F := F)).win (launch0 (F := F)).arr_whole c (pdatsK m hT)
    (fun w => by
      match w with
      | ⟨0, _⟩ => rfl
      | ⟨1, _⟩ => rfl
      | ⟨2, _⟩ => rfl
      | ⟨3, _⟩ => rfl) (fun b => V0 m c b) (fun b => V1 m (outsK m hT) c b)
    (fun w => (scanDat m c).arrAt w cfg0.N) (scan_arr m hT c)
    (fun b hb => V1_of m (outsK m hT) c b (by
      intro hm
      apply hb
      rcases List.mem_cons.mp hm with rfl | hm
      · exact Finset.mem_image.mpr ⟨2, Finset.mem_univ _, rfl⟩
      · rcases List.mem_cons.mp hm with rfl | hm
        · exact Finset.mem_image.mpr ⟨3, Finset.mem_univ _, rfl⟩
        · exact absurd hm List.not_mem_nil))

/-- A core that owes nothing owes nothing within any bound that takes all pairs. -/
theorem owes_enter (c : Dev nD) (B : Set (SemLoc sig × Unit)) (hB : ∀ x, x ∈ B) :
    EK (F := F) c ⊢ iprop(∃ W, ⌜∀ x ∈ W, x ∈ B⌝ ∗ owes (c : Thread nD τ) (0 : CellTallies nD τ sig Unit) W) := by
  unfold EK
  iintro ⟨%W, HO⟩
  iexists W
  isplitr; · ipureintro; exact fun x _ => hB x
  iexact HO

/-- The first region's `owes` at a point. -/
theorem scan_owes (c : Dev nD) (t : Fin (cfg0.N + 1)) : EK (F := F) c ⊢ (scanDat m c).owesAt () t := by
  unfold EK
  iintro ⟨%W, HO⟩
  iexists W
  isplitr; · ipureintro; exact fun _ _ => Or.inl trivial
  iexact HO

theorem scan_owes' (c : Dev nD) (t : Fin (cfg0.N + 1)) : (scanDat m c).owesAt () t ⊢ EK (F := F) c := by
  unfold EK
  iintro ⟨%W, -, HO⟩
  iexists W
  iexact HO

include hT in
/-- Entering the first region. -/
theorem scan_hentry (c : Dev nD) (A B : sProp 𝕄) :
    iprop(iprop(StableHlo.held (c : Thread nD τ) (Pipeline.ucRefs τ sig) (V0 m c) ∗ EK c) ∗ A ∗ B)
      ⊢ |={Set.univ}=> iprop((scanDat m c).arrays (scanDat m c).A ∗ BI.emp ∗ (scanDat m c).owesAt () 0 ∗ BI.emp ∗ scanZ m c) := by
  rw [← Pipeline.unscopedBufs_held (Ix := Unit) (Name := ℕ) (U := UK) (Lvl := ℕ) c (V0 m c)]
  iintro ⟨⟨Hu, HO⟩, -, -⟩
  ihave H := (scan_entry m hT c) $$ Hu
  icases H with ⟨Ha, Hr⟩
  ihave HO := (scan_owes m c 0) $$ HO
  imodintro
  isplitl [Ha]; · iexact Ha
  isplitr; · iempintro
  isplitl [HO]; · iexact HO
  isplitr; · iempintro
  iexact Hr

/-- Leaving the first region. -/
theorem scan_hexit (c : Dev nD) :
    iprop((scanDat m c).toR.arraysAt cfg0.N ∗ (scanDat m c).owesAt () (Fin.last cfg0.N) ∗ BI.emp ∗ scanZ m c)
      ⊢ |={Set.univ}=> iprop(StableHlo.held (c : Thread nD τ) (Pipeline.ucRefs τ sig) (V1 m (outsK m hT) c) ∗ EK c) := by
  rw [(scanDat m c).toR_arraysAt_eq cfg0.N, ← Pipeline.unscopedBufs_held (Ix := Unit) (Name := ℕ) (U := UK) (Lvl := ℕ) c (V1 m (outsK m hT) c)]
  iintro ⟨Ha, HO, -, Hr⟩
  ihave HO := (scan_owes' m c (Fin.last cfg0.N)) $$ HO
  imodintro
  isplitl [Ha Hr]
  · iapply (scan_exit m hT c)
    isplitl [Ha]; · iexact Ha
    iexact Hr
  iexact HO

theorem rdatsK_Φ (c : Dev nD) (t : Fin ((Pipeline.pin (pcfgs (F := F)) (admK m hT) 0).N + 1)) :
    (rdatsK m hT 0 c).Φ t = Pipeline.scopedRest spec0 c := rfl

theorem rest_pin0 (c : Dev nD) : (Pipeline.scopedRest (Pipeline.pin (pcfgs (F := F)) (admK m hT) 0).spec c : sProp 𝕄) = Pipeline.scopedRest spec0 c := rfl

/-- Into the first region's invariant. -/
theorem scan_hin (c : Dev nD) :
    iprop((BI.emp : sProp 𝕄) ∗ Pipeline.prefHeld (pcfgs (F := F) 0).pre c (fun _ => fullShare) (admK m hT 0).1
      ∗ Pipeline.scopedRest (Pipeline.pin (pcfgs (F := F)) (admK m hT) 0).spec c) ⊢ (rdatsK m hT 0 c).Φ 0 := by
  rw [rdatsK_Φ, rest_pin0]
  exact drop3 _ _

/-- Out of it. -/
theorem scan_hout (c : Dev nD) :
    (rdatsK m hT 0 c).Φ (Fin.last (Pipeline.pin (pcfgs (F := F)) (admK m hT) 0).N)
      ⊢ iprop((BI.emp : sProp 𝕄) ∗ BI.emp ∗ Pipeline.scopedRest (Pipeline.pin (pcfgs (F := F)) (admK m hT) 0).spec c) := by
  rw [rdatsK_Φ, rest_pin0]
  exact add2 _

/-- The first region's record. -/
def regScan : RDat.RegionSeg (pcfgs (F := F)) (admK m hT) (rdatsK m hT) () defs₀ Variants.none LK lvK 0 where
  win := (launch0 (F := F)).win.to₀
  block_pos := (launch0 (F := F)).block_pos
  stage_whole := (launch0 (F := F)).stage_whole
  K := PEmpty
  osem k := k.elim
  ho := Pipeline.OwnSemFacts.none _
  hbody c := (scan_obligation m c).loose.toR
  hwaits := RDat.hwaits_of_owed_zero (pcfgs (F := F)) (admK m hT) (rdatsK m hT) () LK lvK 0 (fun _ _ => rfl)
  pre c := iprop(StableHlo.held (c : Thread nD τ) (Pipeline.ucRefs τ sig) (V0 m c) ∗ EK c)
  post c := iprop(StableHlo.held (c : Thread nD τ) (Pipeline.ucRefs τ sig) (V1 m (outsK m hT) c) ∗ EK c)
  X _ := BI.emp
  Y _ := BI.emp
  Z c := scanZ m c
  hentry c := by
    rw [Pipeline.prefHeld_of_none _ rfl]
    exact scan_hentry m hT c _ _
  hin c := scan_hin m hT c
  hout c := by
    rw [Pipeline.ownSems0_none]
    exact scan_hout m hT c
  hexit c := scan_hexit m hT c

/-! ## The second region -/

/-- The last point. -/
def lastR : Fin (cfgR (tblR m) hT).N := ⟨15, lt_of_lt_of_eq (show 15 < 16 from by decide) (cfgR_N (tblR m) hT).symm⟩

theorem whole1_9 (t : Fin (cfgR (tblR m) hT).N) (ht : t.val = 15) : ((cfgR (tblR m) hT).win 9).WholeAt t := by
  refine ⟨(flush1_9 _ _ t).mpr (by rw [ht]), fun s hs => Fin.ext ?_, fun a => ⟨?_, ?_⟩⟩
  · have h1 := (flush1_9 _ _ s).mp hs
    have h2 : s.val < 16 := lt_of_lt_of_eq s.isLt (cfgR_N _ hT)
    omega
  · match a with
    | ⟨0, _⟩ => rfl
    | ⟨1, _⟩ => rfl
  · match a with
    | ⟨0, _⟩ => rfl
    | ⟨1, _⟩ => rfl

/-- Everything known of the output, it is the rows written. -/
theorem known_all (c : Dev nD) (t : Fin (cfgR (tblR m) hT).N) (ht : t.val = 15) (X : Vec F S16x64 .f32)
    (h : Known (tblR m) hT (VR m) c t X) : X = readOut m hT c := by
  funext ix
  have h0 : (ix 0).val < 16 := (ix 0).isLt
  have := h ⟨(ix 0).val, lt_of_lt_of_eq (ix 0).isLt (cfgR_N (tblR m) hT).symm⟩ (by show (ix 0).val ≤ t.val; omega)
    (fun a => match a with
      | ⟨0, _⟩ => ⟨0, Nat.one_pos⟩
      | ⟨1, _⟩ => ix 1)
  refine Eq.trans (congrArg X ?_) this
  funext a
  apply Fin.ext
  rw [Rect.emb_apply]
  match a with
  | ⟨0, _⟩ =>
    show (ix 0).val = k1_off18 _ 0 + 1 * 0
    rw [k1_off18_eq]
    exact (coord1_val ⟨(ix 0).val, _⟩).symm
  | ⟨1, _⟩ =>
    show (ix 1).val = k1_off18 (grid1.coords (⟨(ix 0).val, lt_of_lt_of_eq h0 N_1.symm⟩ : Fin grid1.N)) 1 + 1 * (ix 1).val
    rw [k1_off18_eq]
    show (ix 1).val = 0 + 1 * (ix 1).val
    omega

/-- The second region's arrays at its end. -/
theorem read_arr (c : Dev nD) (A : (w : Fin (cfgR (tblR m) hT).W) → Buf (Elt F) (((cfgR (tblR m) hT).win w).arr.view.loc (c.tc : Thread nD τ)))
    (hA : ∀ w, ((readDat (tblR m) hT (VR m) c).toRRel (marked (tblR m) hT) (readRel (tblR m) hT (VR m) c)).ArrAt w (cfgR (tblR m) hT).N (A w))
    (w : Fin (cfgR (tblR m) hT).W) : A w = V3 m (outsK m hT) c (Pipeline.arrRef spec1 w) := by
  have hin : ∀ w, ((cfgR (tblR m) hT).win w).isOut = false → Pipeline.arrRef spec1 w ≠ main_v2 →
      A w = V3 m (outsK m hT) c (Pipeline.arrRef spec1 w) := fun w hw hne => by
    have e := hA w
    rw [RDat.ArrAt_in _ w hw] at e
    have e' : A w = V2 m (outsK m hT) c (Pipeline.arrRef spec1 w) := e
    exact Eq.trans e' (V3_of m (outsK m hT) c (Pipeline.arrRef spec1 w) (by rw [List.mem_singleton]; exact hne)).symm
  match w with
  | ⟨0, _⟩ => exact hin 0 rfl (show Pipeline.arrRef spec1 (0 : Fin 10) ≠ main_v2 from by decide)
  | ⟨1, _⟩ => exact hin 1 rfl (show Pipeline.arrRef spec1 (1 : Fin 10) ≠ main_v2 from by decide)
  | ⟨2, _⟩ => exact hin 2 rfl (show Pipeline.arrRef spec1 (2 : Fin 10) ≠ main_v2 from by decide)
  | ⟨3, _⟩ => exact hin 3 rfl (show Pipeline.arrRef spec1 (3 : Fin 10) ≠ main_v2 from by decide)
  | ⟨4, _⟩ => exact hin 4 rfl (show Pipeline.arrRef spec1 (4 : Fin 10) ≠ main_v2 from by decide)
  | ⟨5, _⟩ => exact hin 5 rfl (show Pipeline.arrRef spec1 (5 : Fin 10) ≠ main_v2 from by decide)
  | ⟨6, _⟩ => exact hin 6 rfl (show Pipeline.arrRef spec1 (6 : Fin 10) ≠ main_v2 from by decide)
  | ⟨7, _⟩ => exact hin 7 rfl (show Pipeline.arrRef spec1 (7 : Fin 10) ≠ main_v2 from by decide)
  | ⟨8, _⟩ => exact hin 8 rfl (show Pipeline.arrRef spec1 (8 : Fin 10) ≠ main_v2 from by decide)
  | ⟨9, _⟩ =>
    obtain ⟨X, hX, hG⟩ := (hA 9).emb_eq_of_wholeAt (whole1_9 m hT (lastR m hT) rfl)
    have hk : Known (tblR m) hT (VR m) c (lastR m hT) X :=
      (readDat (tblR m) hT (VR m) c).toRRel_leaves (w := 9) rfl hX
    have e : X = readOut m hT c := known_all m hT c _ rfl X hk
    show A 9 = (Function.update (VR m c) (main_v2 : DevRef τ sig) (outsK m hT 3 main_v2 c) : Valuation τ sig (Elt F)) main_v2
    rw [Function.update_self, outsK_3, ← e]
    funext j
    exact hG j

/-- Every core's table is the one table: there is one core. -/
theorem tbl_core (c : Dev nD) : VR m c main_v1 = tblR m := by
  have : c = ⟨0, by decide⟩ := Subsingleton.elim (α := Fin 1) c _
  rw [this]; rfl

/-- The table, held whole. -/
abbrev tblPt (c : Dev nD) : sProp 𝕄 := ((c : Thread nD τ).loc main_v1) ↦{fullShare} tblR m

/-- What bypasses the second region. -/
abbrev readZ (c : Dev nD) : sProp 𝕄 :=
  iprop((((c : Thread nD τ).loc main_arg0) ↦{fullShare} VR m c main_arg0) ∗ (((c : Thread nD τ).loc main_v0_1) ↦{fullShare} VR m c main_v0_1))

/-- The buffers that are no array of the second region: what bypasses it, and the table. -/
theorem rest1_eq (c : Dev nD) : (Pipeline.unscopedRest spec1 c (fun b => VR m c b) : sProp 𝕄)
    = iprop((((c : Thread nD τ).loc main_arg0) ↦{fullShare} VR m c main_arg0) ∗ (((c : Thread nD τ).loc main_v0_1) ↦{fullShare} VR m c main_v0_1) ∗ tblPt m c) := by
  rw [Pipeline.unscopedRest_eq_of_list spec1 c (fun b => VR m c b) [main_arg0, main_v0_1, main_v1] (by decide) (by decide), tblPt, ← tbl_core m c]
  rfl

include hT in
/-- Into the second region: its arrays taken out of the unscoped buffers. -/
theorem read_entry (c : Dev nD) : (unscopedBufs c (fun b => VR m c b) : sProp 𝕄)
    ⊢ iprop((readDat (tblR m) hT (VR m) c).arrays (readDat (tblR m) hT (VR m) c).A ∗ Pipeline.unscopedRest spec1 c (fun b => VR m c b)) :=
  Pipeline.arrays_of_unscopedBufs_shared (pcfgs (F := F)) (admK m hT) (pdatsK m hT) (p := 1) winFacts₀1 sharedIn1 arr_whole1 c
    (fun _ _ => rfl) (fun b => VR m c b) (fun _ => rfl)

include hT in
/-- Out of the second region: its arrays put back. -/
theorem read_exit (c : Dev nD) (A : (w : Fin (cfgR (tblR m) hT).W) → Buf (Elt F) (((cfgR (tblR m) hT).win w).arr.view.loc (c.tc : Thread nD τ)))
    (hA : ∀ w, A w = V3 m (outsK m hT) c (Pipeline.arrRef spec1 w)) :
    iprop((readDat (tblR m) hT (VR m) c).arrays A ∗ Pipeline.unscopedRest spec1 c (fun b => VR m c b))
      ⊢ (unscopedBufs c (fun b => V3 m (outsK m hT) c b) : sProp 𝕄) :=
  Pipeline.unscopedBufs_of_arrays_shared (pcfgs (F := F)) (admK m hT) (p := 1) winFacts₀1 sharedIn1 arr_whole1 c (pdatsK m hT)
    (fun _ _ => rfl) (fun b => VR m c b) (fun b => V3 m (outsK m hT) c b) A hA
    (fun b hb => V3_of m (outsK m hT) c b (by
      intro hm
      apply hb
      rw [List.mem_singleton] at hm
      subst hm
      exact Finset.mem_image.mpr ⟨9, Finset.mem_univ _, rfl⟩))

/-- The one prefetched table, held. -/
theorem pref1_eq (c : Dev nD) : (Pipeline.prefHeld (pcfgs (F := F) 1).pre c (fun _ => fullShare) (admK m hT 1).1 : sProp 𝕄) = tblPt m c := by
  unfold Pipeline.prefHeld
  exact (bigSep_univ_eq_bigSepL [(0 : Fin 1)] (by decide) (by decide) _)

theorem readK_Φ (c : Dev nD) (t : Fin ((Pipeline.pin (pcfgs (F := F)) (admK m hT) 1).N + 1)) :
    (rdatsK m hT 1 c).Φ t = iprop(Pipeline.scopedRest spec1 c ∗ owns (c : Thread nD τ) (Memref.whole main_v1) fullShare (tblR m)) := rfl

theorem rest_pin1 (c : Dev nD) : (Pipeline.scopedRest (Pipeline.pin (pcfgs (F := F)) (admK m hT) 1).spec c : sProp 𝕄) = Pipeline.scopedRest spec1 c := rfl

/-- Into the second region's invariant. -/
theorem read_hin (c : Dev nD) :
    iprop((BI.emp : sProp 𝕄) ∗ Pipeline.prefHeld (pcfgs (F := F) 1).pre c (fun _ => fullShare) (admK m hT 1).1
      ∗ Pipeline.scopedRest (Pipeline.pin (pcfgs (F := F)) (admK m hT) 1).spec c) ⊢ (rdatsK m hT 1 c).Φ 0 := by
  rw [readK_Φ, rest_pin1, pref1_eq, owns_whole]
  iintro ⟨-, Ht, Hr⟩
  isplitl [Hr]; · iexact Hr
  iexact Ht

/-- Out of it. -/
theorem read_hout (c : Dev nD) :
    (rdatsK m hT 1 c).Φ (Fin.last (Pipeline.pin (pcfgs (F := F)) (admK m hT) 1).N)
      ⊢ iprop(tblPt m c ∗ BI.emp ∗ Pipeline.scopedRest (Pipeline.pin (pcfgs (F := F)) (admK m hT) 1).spec c) := by
  rw [readK_Φ, rest_pin1, owns_whole]
  iintro ⟨Hr, Ht⟩
  isplitl [Ht]; · iexact Ht
  isplitr; · iempintro
  iexact Hr

/-- The second region's `owes` at a point. -/
theorem read_owes (c : Dev nD) (t : Fin ((cfgR (tblR m) hT).N + 1)) : EK (F := F) c ⊢ (readDat (tblR m) hT (VR m) c).owesAt () t := by
  unfold EK
  iintro ⟨%W, HO⟩
  iexists W
  isplitr; · ipureintro; exact fun _ _ => Or.inl trivial
  iexact HO

theorem read_owes' (c : Dev nD) (t : Fin ((cfgR (tblR m) hT).N + 1)) : (readDat (tblR m) hT (VR m) c).owesAt () t ⊢ EK (F := F) c := by
  unfold EK
  iintro ⟨%W, -, HO⟩
  iexists W
  iexact HO

/-- Entering the second region. -/
theorem read_hentry (c : Dev nD) (A B : sProp 𝕄) :
    iprop(iprop(StableHlo.held (c : Thread nD τ) (Pipeline.ucRefs τ sig) (VR m c) ∗ EK c) ∗ A ∗ B)
      ⊢ |={Set.univ}=> iprop((readDat (tblR m) hT (VR m) c).arrays (readDat (tblR m) hT (VR m) c).A ∗ tblPt m c
          ∗ (readDat (tblR m) hT (VR m) c).owesAt () 0 ∗ BI.emp ∗ readZ m c) := by
  rw [← Pipeline.unscopedBufs_held (Ix := Unit) (Name := ℕ) (U := UK) (Lvl := ℕ) c (VR m c)]
  iintro ⟨⟨Hu, HO⟩, -, -⟩
  ihave H := (read_entry m hT c) $$ Hu
  rw [rest1_eq]
  icases H with ⟨Ha, H1, H2, H3⟩
  ihave HO := (read_owes m hT c 0) $$ HO
  imodintro
  isplitl [Ha]; · iexact Ha
  isplitl [H3]; · iexact H3
  isplitl [HO]; · iexact HO
  isplitr; · iempintro
  isplitl [H1]; · iexact H1
  iexact H2

/-- Leaving the second region. -/
theorem read_hexit (c : Dev nD) :
    iprop(((readDat (tblR m) hT (VR m) c).toRRel (marked (tblR m) hT) (readRel (tblR m) hT (VR m) c)).arraysAt (cfgR (tblR m) hT).N
        ∗ (readDat (tblR m) hT (VR m) c).owesAt () (Fin.last (cfgR (tblR m) hT).N) ∗ tblPt m c ∗ readZ m c)
      ⊢ |={Set.univ}=> iprop(StableHlo.held (c : Thread nD τ) (Pipeline.ucRefs τ sig) (V3 m (outsK m hT) c) ∗ EK c) := by
  have hopen : ((readDat (tblR m) hT (VR m) c).toRRel (marked (tblR m) hT) (readRel (tblR m) hT (VR m) c)).arraysAt (cfgR (tblR m) hT).N
      ⊢ iprop(∃ A : (w : Fin (cfgR (tblR m) hT).W) → Buf (Elt F) (((cfgR (tblR m) hT).win w).arr.view.loc (c.tc : Thread nD τ)),
        ⌜∀ w, A w = V3 m (outsK m hT) c (Pipeline.arrRef spec1 w)⌝ ∗ (readDat (tblR m) hT (VR m) c).arrays A) := by
    unfold RDat.arraysAt Dat.arrays
    refine (BI.bigSep_exists_pi Finset.univ _).trans ?_
    iintro ⟨%A, H⟩
    ihave H' := (BI.bigSep_pure_sep Finset.univ (fun w =>
      ((readDat (tblR m) hT (VR m) c).toRRel (marked (tblR m) hT) (readRel (tblR m) hT (VR m) c)).ArrAt w (cfgR (tblR m) hT).N (A w)) _) $$ H
    icases H' with ⟨%hA, H⟩
    iexists A
    isplitr
    · ipureintro; exact read_arr m hT c A fun w => hA w (Finset.mem_univ w)
    iexact H
  rw [← Pipeline.unscopedBufs_held (Ix := Unit) (Name := ℕ) (U := UK) (Lvl := ℕ) c (V3 m (outsK m hT) c)]
  iintro ⟨Ha, HO, Ht, H1, H2⟩
  ihave HO := (read_owes' m hT c (Fin.last (cfgR (tblR m) hT).N)) $$ HO
  ihave Ha := hopen $$ Ha
  icases Ha with ⟨%A, %hA, Ha⟩
  imodintro
  isplitl [Ha Ht H1 H2]
  · iapply (read_exit m hT c A hA)
    rw [rest1_eq]
    isplitl [Ha]; · iexact Ha
    isplitl [H1]; · iexact H1
    isplitl [H2]; · iexact H2
    iexact Ht
  iexact HO

/-- The second region's record. -/
def regRead : RDat.RegionSeg (pcfgs (F := F)) (admK m hT) (rdatsK m hT) () defs₀ Variants.none LK lvK 1 where
  win := winFacts₀1
  block_pos := block_pos1
  stage_whole := stage_whole1
  K := PEmpty
  osem k := k.elim
  ho := Pipeline.OwnSemFacts.none _
  hbody c := (read_obligation (tblR m) hT (VR m) c).toRRel
  hwaits := RDat.hwaits_of_owed_zero (pcfgs (F := F)) (admK m hT) (rdatsK m hT) () LK lvK 1 (fun _ _ => rfl)
  pre c := iprop(StableHlo.held (c : Thread nD τ) (Pipeline.ucRefs τ sig) (VR m c) ∗ EK c)
  post c := iprop(StableHlo.held (c : Thread nD τ) (Pipeline.ucRefs τ sig) (V3 m (outsK m hT) c) ∗ EK c)
  X _ := BI.emp
  Y c := tblPt m c
  Z c := readZ m c
  hentry c := by
    rw [pref1_eq]
    exact read_hentry m hT c _ _
  hin c := read_hin m hT c
  hout c := by
    rw [Pipeline.ownSems0_none]
    exact read_hout m hT c
  hexit c := read_hexit m hT c

end Cert.Proof.Mem

end
-- ==== Proof.Mem.KernelTop.lean ====
/-
  The whole kernel runs to an end, and every final state holds the arguments as launched, the second region's rows in
  the result, and every semaphore counter at zero — given that the rows the first region finds are rows of the vault.
-/
module

public import proofs.«01_k».proof.Proof.Mem.KernelRun

@[expose] public section

noncomputable section

namespace Cert.Proof.Mem

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)
open Cert.KernelIdeal Cert.KernelIdeal.Gen

variable {F : FTy → Type} [FloatOps F] [Named F]

local notation "𝕄" => MT nD τ sig Unit (Elt F) ℕ UK ℕ

variable (m : (ℓ : Loc nD τ sig) → Buf (Elt F) ℓ) (hT : InRange (tblR m))

/-- @main's three items. -/
abbrev segsK (c : Dev nD) : List (RDat.Seg (pcfgs (F := F)) (admK m hT) (rdatsK m hT) () defs₀ Variants.none LK lvK) :=
  [.region (regScan m hT), .host (seg1 m (outsK m hT) Variants.none LK lvK (fun _ => EK)), .region (regRead m hT)]

/-- The launch's own element: the library's, for every staging cell. -/
def u0K : UK := initOf (Pipeline.cells (Pipeline.pin (pcfgs (F := F)) (admK m hT)) (cellOf_inj (admK m hT)))
  (Pipeline.launchToks (Pipeline.pin (pcfgs (F := F)) (admK m hT)) (cellOf_inj (admK m hT)))

set_option backward.isDefEq.respectTransparency.types false in
/-- The run. -/
theorem kernel_run (ρ : Dev nD → PrngReg) :
    θ_run defs (onTc (τ := τ) (main (F := F))) ⟨m, fun _ => 0, ρ⟩ (fun r => (∀ c : Dev nD,
      r.2.mem ((c.tc : Thread nD τ).loc main_v2) = readOut m hT c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine RDat.θ_run_regions_kit_dev_sems (pcfgs (F := F)) (admK m hT) (rdatsK m hT) () (cellOf_inj (admK m hT)) emb₁ defs₀ Variants.none LK lvK m ρ main
    (segsK m hT)
    (fun c Q => by
      rewrite [main_chain c, RDat.Seg.run_eq_chain,
        show (segsK m hT c).map RDat.Seg.prog = [
          Prog.lift (.customCall (Pipeline.entry 0) ()),
          StableHlo.seq hostOps1,
          Prog.lift (.customCall (Pipeline.entry 1) ()) ] from rfl]
      dsimp (config := { failIfUnchanged := false }) only
      exact .rfl)
    (fun c => by simp only [segsK, RDat.Seg.pipes_host, RDat.Seg.pipes_region, RDat.Seg.pipes_nil]; decide) (fun _ => 0) (fun _ _ => rfl)
    (fun _ => BI.emp) (u0K m hT) ?_
    (T₀ := fun c => iprop(StableHlo.held (c : Thread nD τ) (Pipeline.ucRefs τ sig) (V0 m c) ∗ EK c))
    (Tₙ := fun c => StableHlo.held (c : Thread nD τ) (Pipeline.ucRefs τ sig) (V3 m (outsK m hT) c))
    (hch := fun c => ⟨.rfl, .rfl, .rfl, .rfl⟩)
    (hinit := ?_) (QY := fun c s => s.mem ((c.tc : Thread nD τ).loc main_v2) = readOut m hT c
      ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h hz => ⟨h, funext fun g => hz g (.inr (regions_no_unscoped g.2))⟩)
  · -- the library's element, and nothing for each core
    rw [BI.bigSep_emp_const, ← ownU_emb₁]
    iintro H
    imodintro
    isplitl [H]
    · iexact H
    · iempintro
  · -- the launch: the unscoped buffers as launched, and the core owing nothing
    refine Pipeline.initEach LK lvK fun c => ?_
    rw [← Pipeline.unscopedBufs_held (Ix := Unit) (Name := ℕ) (U := UK) (Lvl := ℕ) c (V0 m c)]
    unfold EK
    iintro ⟨⟨Hu, -, HO, -, -, -⟩, -⟩
    imodintro
    isplitl [Hu]; · iexact Hu
    iexists ∅
    iexact HO
  · -- the end: the result's and each argument's buffer read off the last valuation
    unfold StableHlo.held
    iintro ⟨Hh, HSI⟩
    ihave Hr := (pointsTo_read_all (Pipeline.ucRefs τ sig) (fun b => ((c : Thread nD τ).1, b)) (V3 m (outsK m hT) c) s') $$ [Hh HSI]
    · isplitl [Hh] <;> iassumption
    icases Hr with ⟨%h, HSI⟩
    imodintro
    isplitr
    · ipureintro
      refine ⟨(h (Proc.devRef .tc main_v2) (Finset.mem_filter.mpr ⟨StableHlo.devRef_mem_tcRefs main_v2, by decide⟩)).trans ?_,
        (h (Proc.devRef .tc main_arg0) (Finset.mem_filter.mpr ⟨StableHlo.devRef_mem_tcRefs main_arg0, by decide⟩)).trans (V3_main_arg0 m (outsK m hT) c),
        (h (Proc.devRef .tc main_arg1) (Finset.mem_filter.mpr ⟨StableHlo.devRef_mem_tcRefs main_arg1, by decide⟩)).trans (V3_main_arg1 m (outsK m hT) c)⟩
      show (Function.update (VR m c) (main_v2 : DevRef τ sig) (outsK m hT 3 main_v2 c) : Valuation τ sig (Elt F)) main_v2 = _
      rw [Function.update_self, outsK_3]
    · iexact HSI

end Cert.Proof.Mem

end
-- ==== Proof.Pure.Select.lean ====
/-
  Choosing the eight first places of a set of numbered values, the greater value first and the lesser number first among
  equal values: what eight choices in turn are, that they are the only ones, how they pass from a set to a larger one,
  and that both eight rounds of striking out the greatest and a stable sort make them.
-/
module

public import Mathlib.Order.SetNotation
public import Mathlib.Data.Set.Card
public import Mathlib.Data.EReal.Basic
public import Idealize.ShloMosaic.Lib.SortFacts

@[expose] public section

noncomputable section

namespace Cert.Proof.Pure

open Idealize.ShloMosaic

variable {α : Type} [LinearOrder α] (s : ℕ → α)

/-- Place `a` comes before place `b`. -/
def Ahead (a b : ℕ) : Prop := s b < s a ∨ (s a = s b ∧ a < b)

theorem Ahead.asymm {s : ℕ → α} {a b : ℕ} (h : Ahead s a b) (h' : Ahead s b a) : False := by
  rcases h with h | ⟨h, l⟩ <;> rcases h' with h' | ⟨h', l'⟩
  · exact lt_asymm h h'
  · exact absurd h' (ne_of_lt h).symm.symm
  · exact absurd h (ne_of_lt h').symm.symm
  · omega

theorem Ahead.trans {s : ℕ → α} {a b c : ℕ} (h : Ahead s a b) (h' : Ahead s b c) : Ahead s a c := by
  rcases h with h | ⟨h, l⟩ <;> rcases h' with h' | ⟨h', l'⟩
  · exact .inl (h'.trans h)
  · exact .inl (h' ▸ h)
  · exact .inl (h ▸ h')
  · exact .inr ⟨h.trans h', by omega⟩

/-- The eight first places of `T`, in order: each is in `T`, differs from the earlier ones, and comes before every place of `T` that is none of those. -/
structure Picks (T : Set ℕ) (i : ℕ → ℕ) : Prop where
  mem : ∀ k < 8, i k ∈ T
  ne : ∀ k < 8, ∀ j < k, i j ≠ i k
  least : ∀ k < 8, ∀ n ∈ T, (∀ j < k, i j ≠ n) → n = i k ∨ Ahead s (i k) n

variable {s}

/-- There is only one way to choose. -/
theorem Picks.unique {T : Set ℕ} {i i' : ℕ → ℕ} (h : Picks s T i) (h' : Picks s T i') : ∀ k < 8, i k = i' k := by
  intro k
  induction k using Nat.strong_induction_on with
  | _ k ih =>
    intro hk
    rcases h.least k hk (i' k) (h'.mem k hk) (fun j hj e => h'.ne k hk j hj (by rw [← ih j hj (by omega), e])) with e | a
    · exact e.symm
    rcases h'.least k hk (i k) (h.mem k hk) (fun j hj e => h.ne k hk j hj (by rw [ih j hj (by omega), e])) with e | a'
    · exact e
    exact (a.asymm a').elim

/-- Of eight different numbers, one is none of fewer than eight. -/
theorem exists_other {i i' : ℕ → ℕ} (hi : ∀ k < 8, ∀ j < k, i j ≠ i k) {k : ℕ} (hk : k < 8) : ∃ l < 8, ∀ j < k, i' j ≠ i l := by
  by_contra hc
  push Not at hc
  have h1 : (Finset.range 8).image i ⊆ (Finset.range k).image i' := by
    intro n hn
    obtain ⟨l, hl, rfl⟩ := Finset.mem_image.mp hn
    obtain ⟨j, hj, e⟩ := hc l (Finset.mem_range.mp hl)
    exact Finset.mem_image.mpr ⟨j, Finset.mem_range.mpr hj, e⟩
  have h2 : ((Finset.range 8).image i).card = 8 := by
    rw [Finset.card_image_of_injOn, Finset.card_range]
    intro a ha b hb e
    have ha' := Finset.mem_range.mp (Finset.mem_coe.mp ha)
    have hb' := Finset.mem_range.mp (Finset.mem_coe.mp hb)
    rcases Nat.lt_trichotomy a b with l | l | l
    · exact absurd e (hi b hb' a l)
    · exact l
    · exact absurd e.symm (hi a ha' b l)
  have h3 := Finset.card_le_card h1
  have h4 : ((Finset.range k).image i').card ≤ k := by simpa using Finset.card_image_le (s := Finset.range k) (f := i')
  omega

/-- The eight first of a set's eight first and of new places are the eight first of the set and the new places. -/
theorem Picks.merge {T U : Set ℕ} {i i' : ℕ → ℕ} (h : Picks s T i) (h' : Picks s ({n | ∃ k < 8, i k = n} ∪ U) i') :
    Picks s (T ∪ U) i' where
  mem k hk := by
    rcases h'.mem k hk with ⟨j, hj, e⟩ | hU
    · exact .inl (e ▸ h.mem j hj)
    · exact .inr hU
  ne := h'.ne
  least k hk n hn hne := by
    by_cases hc : n ∈ ({n | ∃ k < 8, i k = n} ∪ U : Set ℕ)
    · exact h'.least k hk n hc hne
    · rcases hn with hn | hn
      · have hno : ∀ j < 8, i j ≠ n := fun j hj e => hc (.inl ⟨j, hj, e⟩)
        obtain ⟨l, hl, hl'⟩ := exists_other (i' := i') h.ne hk
        have a : Ahead s (i l) n := by
          rcases h.least l hl n hn (fun j hj => hno j (by omega)) with e | a
          · exact absurd e.symm (hno l hl)
          · exact a
        rcases h'.least k hk (i l) (.inl ⟨l, hl, rfl⟩) hl' with e | a'
        · exact .inr (e ▸ a)
        · exact .inr (a'.trans a)
      · exact absurd (.inr hn) hc

/-- Each choice comes before the later ones. -/
theorem Picks.ahead {T : Set ℕ} {i : ℕ → ℕ} (h : Picks s T i) {j k : ℕ} (hj : j < k) (hk : k < 8) : Ahead s (i j) (i k) := by
  rcases h.least j (by omega) (i k) (h.mem k hk) (fun l hl => h.ne k hk l (by omega)) with e | a
  · exact absurd e.symm (h.ne k hk j hj)
  · exact a

/-- New places that come later than the set's and whose values are at most its eighth change nothing. -/
theorem Picks.skip {T U : Set ℕ} {i : ℕ → ℕ} (h : Picks s T i) (hU : ∀ n ∈ U, s n ≤ s (i 7) ∧ ∀ t ∈ T, t < n) : Picks s (T ∪ U) i where
  mem k hk := .inl (h.mem k hk)
  ne := h.ne
  least k hk n hn hne := by
    rcases hn with hn | hn
    · exact h.least k hk n hn hne
    · obtain ⟨hs, hlt⟩ := hU n hn
      have a : Ahead s (i 7) n := by
        rcases lt_or_eq_of_le hs with l | e
        · exact .inl l
        · exact .inr ⟨e.symm, hlt _ (h.mem 7 (by omega))⟩
      rcases Nat.lt_or_eq_of_le (Nat.le_of_lt_succ hk) with l | e
      · exact .inr ((h.ahead l (by omega)).trans a)
      · exact .inr (e ▸ a)

/-! ## Eight rounds of striking out -/

section Rounds

variable {N : ℕ} {s : ℕ → EReal} {val : Fin N → EReal} {idx : Fin N → ℕ} {cv : ℕ → Fin N → EReal} {mx : ℕ → EReal} {pick : ℕ → ℕ}

/-- Eight rounds over candidates: the greatest value, the least number among its places, that place struck out. They choose the eight first of the
    candidates above `⊥`, if these are at least eight with different numbers. -/
theorem picks_rounds (h0 : ∀ p, cv 0 p = val p)
    (hle : ∀ k < 8, ∀ p, cv k p ≤ mx k) (hat : ∀ k < 8, ∃ p, cv k p = mx k)
    (hple : ∀ k < 8, ∀ p, cv k p = mx k → pick k ≤ idx p) (hpat : ∀ k < 8, ∃ p, cv k p = mx k ∧ idx p = pick k)
    (hnext : ∀ k < 8, ∀ p, cv (k + 1) p = if cv k p = mx k ∧ idx p = pick k then ⊥ else cv k p)
    (hinj : ∀ p q, ⊥ < val p → ⊥ < val q → idx p = idx q → p = q)
    (hs : ∀ p, ⊥ < val p → s (idx p) = val p)
    {e : ℕ → Fin N} (heG : ∀ k < 8, ⊥ < val (e k)) (hene : ∀ k < 8, ∀ j < k, e j ≠ e k) :
    Picks s {n | ∃ p, ⊥ < val p ∧ idx p = n} pick ∧ ∀ k < 8, mx k = s (pick k) := by
  classical
  have inv : ∀ k ≤ 8, ∀ p, cv k p = if ⊥ < val p ∧ ∃ j < k, pick j = idx p then ⊥ else val p := by
    intro k
    induction k with
    | zero => intro _ p; simp [h0]
    | succ k ih =>
      intro hk p
      have ih := ih (by omega)
      have hmx : ⊥ < mx k := by
        obtain ⟨l, hl, hl'⟩ := exists_other (i := fun k => idx (e k)) (i' := pick)
          (fun k hk j hj hh => hene k hk j hj (hinj _ _ (heG j (by omega)) (heG k hk) hh)) (k := k) (by omega)
        refine lt_of_lt_of_le (heG l hl) ?_
        have := hle k (by omega) (e l)
        rw [ih (e l), if_neg (fun hh => by obtain ⟨-, j, hj, e'⟩ := hh; exact hl' j hj e')] at this
        exact this
      rw [hnext k (by omega) p, ih p]
      by_cases hst : ⊥ < val p ∧ ∃ j < k, pick j = idx p
      · rw [if_pos hst, if_neg (fun hh => absurd hh.1 (ne_of_lt hmx)), if_pos ⟨hst.1, by obtain ⟨-, j, hj, e'⟩ := hst; exact ⟨j, by omega, e'⟩⟩]
      · rw [if_neg hst]
        by_cases hc : val p = mx k ∧ idx p = pick k
        · rw [if_pos hc, if_pos ⟨hc.1 ▸ hmx, k, by omega, hc.2.symm⟩]
        · rw [if_neg hc, if_neg]
          rintro ⟨hv, j, hj, e'⟩
          rcases Nat.lt_or_eq_of_le (Nat.le_of_lt_succ hj) with l | rfl
          · exact hst ⟨hv, j, l, e'⟩
          · obtain ⟨q, hq, hq'⟩ := hpat j (by omega)
            rw [ih q] at hq
            by_cases hsq : ⊥ < val q ∧ ∃ l < j, pick l = idx q
            · rw [if_pos hsq] at hq; exact absurd hq (ne_of_lt hmx)
            · rw [if_neg hsq] at hq
              have : p = q := hinj p q hv (hq ▸ hmx) (e'.symm.trans hq'.symm)
              subst this
              exact hc ⟨hq, e'.symm⟩
  have hmx : ∀ k < 8, ⊥ < mx k := by
    intro k hk
    obtain ⟨l, hl, hl'⟩ := exists_other (i := fun k => idx (e k)) (i' := pick)
      (fun k hk j hj hh => hene k hk j hj (hinj _ _ (heG j (by omega)) (heG k hk) hh)) (k := k) (by omega)
    refine lt_of_lt_of_le (heG l hl) ?_
    have := hle k (by omega) (e l)
    rw [inv k (by omega) (e l), if_neg (fun hh => by obtain ⟨-, j, hj, e'⟩ := hh; exact hl' j hj e')] at this
    exact this
  have hq : ∀ k < 8, ∃ q, ⊥ < val q ∧ idx q = pick k ∧ val q = mx k ∧ ∀ j < k, pick j ≠ pick k := by
    intro k hk
    obtain ⟨q, hq, hq'⟩ := hpat k hk
    rw [inv k (by omega) q] at hq
    by_cases hsq : ⊥ < val q ∧ ∃ l < k, pick l = idx q
    · rw [if_pos hsq] at hq; exact absurd hq (ne_of_lt (hmx k hk))
    · rw [if_neg hsq] at hq
      have hv : ⊥ < val q := hq ▸ hmx k hk
      exact ⟨q, hv, hq', hq, fun j hj e' => hsq ⟨hv, j, hj, e'.trans hq'.symm⟩⟩
  have hm : ∀ k < 8, mx k = s (pick k) := by
    intro k hk
    obtain ⟨q, hv, hi, hx, -⟩ := hq k hk
    rw [← hi, hs q hv, hx]
  refine ⟨⟨fun k hk => ?_, fun k hk j hj => ?_, fun k hk n hn hne => ?_⟩, hm⟩
  · obtain ⟨q, hv, hi, -, -⟩ := hq k hk
    exact ⟨q, hv, hi⟩
  · obtain ⟨q, -, -, -, hne⟩ := hq k hk
    exact hne j hj
  · obtain ⟨p, hv, rfl⟩ := hn
    have hcv : cv k p = val p := by
      rw [inv k (by omega) p, if_neg]
      rintro ⟨-, j, hj, e'⟩
      exact hne j hj e'
    rcases lt_or_eq_of_le (hle k hk p) with l | l
    · right; left
      rw [← hm k hk, hs p hv, ← hcv]; exact l
    · rcases Nat.lt_or_eq_of_le (hple k hk p l) with l' | l'
      · right; right
        exact ⟨by rw [← hm k hk, hs p hv, ← hcv, l], l'⟩
      · left; exact l'.symm

end Rounds

/-! ## A stable sort -/

/-- Inserting in turn from the end, the earlier place never overtakes: the stable sort by value is the sort by value and number. -/
theorem stableSort_eq {n : ℕ} (B B' : Fin n → Fin n → Bool) (h : ∀ a b, a < b → B b a = B' b a) (l : List (Fin n)) (hl : l.Pairwise (· < ·)) :
    stableSort B l = stableSort B' l := by
  induction l with
  | nil => rfl
  | cons a l ih =>
    rw [List.pairwise_cons] at hl
    unfold stableSort
    rw [ih hl.2]
    exact insertBefore_congr B B' a _ fun b hb => h a b (hl.1 b ((perm_stableSort B' l).mem_iff.mp hb))

/-- The first eight positions of a stable sort, the greater value first, are the eight first places. -/
theorem picks_sorted {n : ℕ} (hn : 8 ≤ n) (s : ℕ → EReal) (B : Fin n → Fin n → Bool) (hB : ∀ a b, B a b = decide (s b.val < s a.val)) (i : ℕ → ℕ)
    (hi : ∀ k (hk : k < 8), i k = (sortedFrom B ⟨k, by omega⟩).val) : Picks s {m | m < n} i := by
  classical
  let B' : Fin n → Fin n → Bool := fun a b => decide (Ahead s a.val b.val)
  have hBB : sortedFrom B = sortedFrom B' := by
    have : sortPositions n B = sortPositions n B' := stableSort_eq B B' (fun a b hab => by
      rw [hB]
      refine decide_eq_decide.mpr ⟨fun h => .inl h, fun h => ?_⟩
      rcases h with h | ⟨-, h⟩
      · exact h
      · exact absurd h (by have : a.val < b.val := hab; omega)) _ (List.pairwise_lt_finRange n)
    funext k
    unfold sortedFrom
    rw [List.get_of_eq this]
    rfl
  have htot : ∀ a b : ℕ, a ≠ b → ¬ Ahead s a b → Ahead s b a := by
    intro a b hne h
    unfold Ahead at h ⊢
    push Not at h
    rcases lt_or_eq_of_le h.1 with l | l
    · exact .inl l
    · exact .inr ⟨l.symm, by have := h.2 l; omega⟩
  have hno : ∀ p q : Fin n, p < q → ¬ Ahead s (sortedFrom B q).val (sortedFrom B p).val := by
    intro p q hpq
    have := sortedFrom_noInversion B' B' (fun a b h => by
        have h := of_decide_eq_true h
        exact decide_eq_false fun h' => h.asymm h') (fun _ _ h => h) (fun a b c h h' => by
        have h := of_decide_eq_false h
        have h' := of_decide_eq_false h'
        refine decide_eq_false fun hac => ?_
        by_cases e : a.val = b.val
        · exact h' (e ▸ hac)
        by_cases e' : b.val = c.val
        · exact h (e' ▸ hac)
        exact ((htot _ _ e' h').trans (htot _ _ e h)).asymm hac) p q hpq
    rw [← hBB] at this
    exact of_decide_eq_false this
  refine ⟨fun k hk => ?_, fun k hk j hj e => ?_, fun k hk m hm hne => ?_⟩
  · rw [hi k hk]; exact (sortedFrom B _).isLt
  · rw [hi k hk, hi j (by omega)] at e
    have := sortedFrom_injective B (Fin.ext e)
    have := congrArg Fin.val this
    simp only at this
    omega
  · obtain ⟨q, hq⟩ := sortedFrom_surjective B ⟨m, hm⟩
    have hqm : (sortedFrom B q).val = m := by rw [hq]
    rw [hi k hk]
    rcases Nat.lt_trichotomy q.val k with l | l | l
    · exact absurd (by rw [hi q.val (by omega)]; exact hqm) (hne q.val l)
    · left
      rw [← hqm]
      exact congrArg (fun z => (sortedFrom B z).val) (Fin.ext l)
    · right
      rw [← hqm]
      refine htot _ _ (fun e => ?_) (hno ⟨k, by omega⟩ q l)
      have := congrArg Fin.val (sortedFrom_injective B (Fin.ext e))
      simp only at this
      omega

end Cert.Proof.Pure

end
-- ==== Proof.Pure.Score.lean ====
/-
  A query's score against a key over the extended reals, and the scan body's scores as that.
  A row is normalised in groups of four, each entry over the root of its group's sum of squares and a small constant; every normalised
  entry is a real number whatever the row holds, so a score is a real number.
-/
module

public import proofs.«01_k».proof.Proof.Mem.ScanPay
public import Idealize.ShloMosaic.Lib.Pointwise

@[expose] public section

noncomputable section

namespace Cert.Proof.Pure

open Idealize.ShloMosaic
open Cert.KernelIdeal Cert.KernelIdeal.Gen Cert.Proof.Mem

/-- The small constant under the root. -/
def eps : EReal := Ideal.ofBits .f32 0x322BCC77#32

/-- One half. -/
def half : EReal := Ideal.ofBits .f32 0x3F000000#32

theorem eps_pos : ∃ e : ℝ, 0 < e ∧ eps = (e : EReal) := by
  refine ⟨11258999 / 2 ^ 50, by norm_num, ?_⟩
  unfold eps
  simp [Ideal.ofBits, Ideal.ieee, -EReal.coe_mul]; norm_num

theorem half_eq : half = ((2⁻¹ : ℝ) : EReal) := by
  unfold half
  simp [Ideal.ofBits, Ideal.ieee, -EReal.coe_mul]; norm_num

/-- Place `j` of the group of four that place `l` is in. -/
def mate (l : Fin 64) (j : Fin 4) : Fin 64 := ⟨4 * (l.val / 4) + j.val, by omega⟩

/-- The sum of squares of a place's group. -/
def gsum (f : Fin 64 → EReal) (l : Fin 64) : EReal := ∑ j : Fin 4, f (mate l j) * f (mate l j)

/-- A row's normalised entry. -/
def nrm (f : Fin 64 → EReal) (l : Fin 64) : EReal := Ideal.div (f l) (Ideal.sqrt (gsum f l + eps))

/-- A query's score against a key. -/
def score (x k : Fin 64 → EReal) : EReal := half * ∑ l : Fin 64, nrm x l * nrm k l

theorem self_mate (l : Fin 64) : ∃ j, mate l j = l := ⟨⟨l.val % 4, by omega⟩, Fin.ext (by show 4 * (l.val / 4) + l.val % 4 = l.val; omega)⟩

theorem sq_nonneg' (a : EReal) : 0 ≤ a * a := by
  rcases le_total 0 a with h | h
  · exact mul_nonneg h h
  · have := mul_nonneg (EReal.neg_nonneg.mpr h) (EReal.neg_nonneg.mpr h)
    rwa [EReal.neg_mul, EReal.mul_comm, EReal.neg_mul, neg_neg] at this

/-- A group's sum of squares is at least the square of each of its entries. -/
theorem sq_le_gsum (f : Fin 64 → EReal) (l : Fin 64) : f l * f l ≤ gsum f l := by
  obtain ⟨j, hj⟩ := self_mate l
  have := Finset.single_le_sum (f := fun j : Fin 4 => f (mate l j) * f (mate l j)) (fun i _ => sq_nonneg' _) (Finset.mem_univ j)
  simp only [hj] at this
  exact this

theorem div_top (x : EReal) : Ideal.div x ⊤ = 0 := by
  rw [Ideal.div, if_neg (by simp), EReal.inv_top, mul_zero]

/-- A normalised entry is a real number. -/
theorem nrm_real (f : Fin 64 → EReal) (l : Fin 64) : ∃ y : ℝ, nrm f l = (y : EReal) := by
  obtain ⟨e, he, hee⟩ := eps_pos
  have h0 : 0 ≤ gsum f l := (sq_nonneg' _).trans (sq_le_gsum f l)
  have h1 := sq_le_gsum f l
  unfold nrm
  rw [hee]
  generalize gsum f l = q at h0 h1
  induction q with
  | bot => exact absurd h0 (by simp)
  | top => exact ⟨0, by rw [EReal.top_add_coe, Ideal.sqrt_top, div_top]; rfl⟩
  | coe r =>
    have hr : 0 ≤ r := by exact_mod_cast h0
    have hpos : 0 < Real.sqrt (r + e) := Real.sqrt_pos.mpr (by linarith)
    rw [← EReal.coe_add, Ideal.sqrt_coe, if_neg (by linarith), Ideal.div_coe hpos.ne']
    generalize f l = a at h1
    induction a with
    | bot => exact absurd h1 (by simp)
    | top => exact absurd h1 (by simp)
    | coe a => exact ⟨a * (1 / Real.sqrt (r + e)), by rw [EReal.coe_mul]⟩

theorem sum_coe {ι : Type} (t : Finset ι) (g : ι → ℝ) : ∑ l ∈ t, ((g l : ℝ) : EReal) = ((∑ l ∈ t, g l : ℝ) : EReal) := by
  classical
  induction t using Finset.induction_on with
  | empty => simp
  | insert a t h ih => rw [Finset.sum_insert h, Finset.sum_insert h, ih, EReal.coe_add]

/-- A score is a real number. -/
theorem score_real (x k : Fin 64 → EReal) : ∃ y : ℝ, score x k = (y : EReal) := by
  choose a ha using nrm_real x
  choose b hb using nrm_real k
  refine ⟨2⁻¹ * ∑ l, a l * b l, ?_⟩
  unfold score
  rw [half_eq, EReal.coe_mul, ← sum_coe]
  simp only [ha, hb, EReal.coe_mul]

/-- Halving a query's entries halves the score. -/
theorem sum_halved (x k : Fin 64 → EReal) : ∑ l : Fin 64, (nrm x l * half) * nrm k l = score x k := by
  choose a ha using nrm_real x
  choose b hb using nrm_real k
  unfold score
  simp only [ha, hb, half_eq, ← EReal.coe_mul, sum_coe]
  rw [Finset.mul_sum]
  congr 1
  exact Finset.sum_congr rfl fun l _ => by ring

/-! ## The scan body's terms -/

/-- The queries, row by row. -/
def qrow (x : FVec Ideal S16x64 .f32) (r : Fin 16) : Fin 64 → EReal := fun l => x (ix2 r l)

/-- A block's keys, row by row. -/
def krow (kb : FVec Ideal S20000x64 .f32) (p : Fin 20000) : Fin 64 → EReal := fun l => kb (ix2 p l)

theorem bit0 (r : Fin 16) (l : Fin 64) : k0_pay51 (ix2 r l) = if l.val % 2 = 1 then 1#1 else 0#1 := by
  pointwise [k0_pay51]
  revert l; decide +kernel

/-- The second rotation's bit. -/
def bitw (r : Fin 16) (l : Fin 64) : BitVec 1 :=
  IntOp.cmpi .eq (Scalar.select (IntOp.andi (IntOp.xori (IntOp.cmpi .slt (IntOp.remsi .vector
    (Scalar.select (k0_pay53 (ix2 r l)) (IntOp.subi (k0_pay52 (ix2 r l)) (k0_pay54 (ix2 r l))) (k0_pay52 (ix2 r l)))
    (Scalar.select (Scalar.cmpi .eq 2#32 0#32) 1#32 2#32)) 0#32)
    (Scalar.cmpi .slt (Scalar.select (Scalar.cmpi .eq 2#32 0#32) 1#32 2#32) 0#32))
    (IntOp.cmpi .ne (IntOp.remsi .vector
    (Scalar.select (k0_pay53 (ix2 r l)) (IntOp.subi (k0_pay52 (ix2 r l)) (k0_pay54 (ix2 r l))) (k0_pay52 (ix2 r l)))
    (Scalar.select (Scalar.cmpi .eq 2#32 0#32) 1#32 2#32)) 0#32))
    (IntOp.addi (IntOp.remsi .vector
    (Scalar.select (k0_pay53 (ix2 r l)) (IntOp.subi (k0_pay52 (ix2 r l)) (k0_pay54 (ix2 r l))) (k0_pay52 (ix2 r l)))
    (Scalar.select (Scalar.cmpi .eq 2#32 0#32) 1#32 2#32)) (Scalar.select (Scalar.cmpi .eq 2#32 0#32) 1#32 2#32))
    (IntOp.remsi .vector
    (Scalar.select (k0_pay53 (ix2 r l)) (IntOp.subi (k0_pay52 (ix2 r l)) (k0_pay54 (ix2 r l))) (k0_pay52 (ix2 r l)))
    (Scalar.select (Scalar.cmpi .eq 2#32 0#32) 1#32 2#32))) 1#32

theorem bitw_eq (r : Fin 16) (l : Fin 64) : bitw r l = if l.val / 2 % 2 = 1 then 1#1 else 0#1 := by
  pointwise [bitw, k0_pay52, k0_pay53, k0_pay54]
  revert l; decide +kernel

theorem select_ite {α : Type} (c : Prop) [Decidable c] (a b : α) : Scalar.select (if c then 1#1 else 0#1) a b = if c then a else b := by
  split <;> rfl

/-- The two rotations sum a group of four. -/
theorem rolled (g : Fin 64 → EReal) (l : Fin 64) (h1 h2 h3 h4 h5 h6 h7 h8) :
    (g l + if l.val % 2 = 1 then g ⟨(l.val + 64 - 1) % 64, h1⟩ else g ⟨(l.val + 64 - 63) % 64, h2⟩)
      + (if l.val / 2 % 2 = 1 then
          g ⟨(l.val + 64 - 2) % 64, h3⟩ + (if (l.val + 64 - 2) % 64 % 2 = 1 then g ⟨((l.val + 64 - 2) % 64 + 64 - 1) % 64, h4⟩ else g ⟨((l.val + 64 - 2) % 64 + 64 - 63) % 64, h5⟩)
        else
          g ⟨(l.val + 64 - 62) % 64, h6⟩ + (if (l.val + 64 - 62) % 64 % 2 = 1 then g ⟨((l.val + 64 - 62) % 64 + 64 - 1) % 64, h7⟩ else g ⟨((l.val + 64 - 62) % 64 + 64 - 63) % 64, h8⟩))
      = ∑ j : Fin 4, g (mate l j) := by
  have e : ∀ (n : ℕ) (h : n < 64) (j : Fin 4), n = 4 * (l.val / 4) + j.val → g ⟨n, h⟩ = g (mate l j) :=
    fun n h j hn => congrArg g (Fin.ext hn)
  have e0 : ∀ (j : Fin 4), l.val = 4 * (l.val / 4) + j.val → g l = g (mate l j) := fun j hn => congrArg g (Fin.ext hn)
  rw [Fin.sum_univ_four]
  have hc : l.val % 4 = 0 ∨ l.val % 4 = 1 ∨ l.val % 4 = 2 ∨ l.val % 4 = 3 := by omega
  rcases hc with h | h | h | h
  · rw [if_neg (by omega), if_neg (by omega), if_neg (by omega), e0 0 (by show l.val = 4 * (l.val / 4) + 0; omega), e _ h2 1 (by show _ = 4 * (l.val / 4) + 1; omega),
      e _ h6 2 (by show _ = 4 * (l.val / 4) + 2; omega), e _ h8 3 (by show _ = 4 * (l.val / 4) + 3; omega)]
    ac_rfl
  · rw [if_pos (by omega), if_neg (by omega), if_pos (by omega), e0 1 (by show l.val = 4 * (l.val / 4) + 1; omega), e _ h1 0 (by show _ = 4 * (l.val / 4) + 0; omega),
      e _ h6 3 (by show _ = 4 * (l.val / 4) + 3; omega), e _ h7 2 (by show _ = 4 * (l.val / 4) + 2; omega)]
    ac_rfl
  · rw [if_neg (by omega), if_pos (by omega), if_neg (by omega), e0 2 (by show l.val = 4 * (l.val / 4) + 2; omega), e _ h2 3 (by show _ = 4 * (l.val / 4) + 3; omega),
      e _ h3 0 (by show _ = 4 * (l.val / 4) + 0; omega), e _ h5 1 (by show _ = 4 * (l.val / 4) + 1; omega)]
    ac_rfl
  · rw [if_pos (by omega), if_pos (by omega), if_pos (by omega), e0 3 (by show l.val = 4 * (l.val / 4) + 3; omega), e _ h1 2 (by show _ = 4 * (l.val / 4) + 2; omega),
      e _ h3 1 (by show _ = 4 * (l.val / 4) + 1; omega), e _ h4 0 (by show _ = 4 * (l.val / 4) + 0; omega)]
    ac_rfl

/-- The query side. -/
theorem kq_apply (x : FVec Ideal S16x64 .f32) (r : Fin 16) (l : Fin 64) : kq (F := Ideal) x (ix2 r l) = nrm (qrow x r) l * half := by
  pointwise [kq, k0_pay55, k0_pay50]
  have hb := bitw_eq r l
  unfold bitw at hb
  rw [hb]
  simp only [bit0, select_ite]
  have := rolled (fun l => x (ix2 r l) * x (ix2 r l)) l (by omega) (by omega) (by omega) (by omega) (by omega) (by omega) (by omega) (by omega)
  rw [this]
  rfl

/-- The mask's entry. -/
theorem mask_apply (a l : Fin 64) :
    (FloatOps.sitofp (F := Ideal) FTy.f32
          (BitVec.setWidth 32
            (IntOp.cmpi CmpIPredicate.eq
              (Scalar.select
                (IntOp.andi
                  (IntOp.cmpi CmpIPredicate.ne
                    (IntOp.subi (BitVec.setWidth 32 (IntOp.cmpi CmpIPredicate.sgt (BitVec.ofNat 32 a.val) 0#32))
                      (BitVec.setWidth 32 (IntOp.cmpi CmpIPredicate.slt (BitVec.ofNat 32 a.val) 0#32)))
                    (Scalar.subi (Scalar.extui (Scalar.cmpi CmpIPredicate.sgt 4#32 0#32))
                      (Scalar.extui (Scalar.cmpi CmpIPredicate.slt 4#32 0#32))))
                  (IntOp.cmpi CmpIPredicate.ne (IntOp.remsi ArithUnit.vector (BitVec.ofNat 32 a.val) 4#32) 0#32))
                (IntOp.subi (IntOp.divsi ArithUnit.vector (BitVec.ofNat 32 a.val) 4#32) 1#32)
                (IntOp.divsi ArithUnit.vector (BitVec.ofNat 32 a.val) 4#32))
              (Scalar.select
                (IntOp.andi
                  (IntOp.cmpi CmpIPredicate.ne
                    (IntOp.subi (BitVec.setWidth 32 (IntOp.cmpi CmpIPredicate.sgt (BitVec.ofNat 32 l.val) 0#32))
                      (BitVec.setWidth 32 (IntOp.cmpi CmpIPredicate.slt (BitVec.ofNat 32 l.val) 0#32)))
                    (Scalar.subi (Scalar.extui (Scalar.cmpi CmpIPredicate.sgt 4#32 0#32))
                      (Scalar.extui (Scalar.cmpi CmpIPredicate.slt 4#32 0#32))))
                  (IntOp.cmpi CmpIPredicate.ne (IntOp.remsi ArithUnit.vector (BitVec.ofNat 32 l.val) 4#32) 0#32))
                (IntOp.subi (IntOp.divsi ArithUnit.vector (BitVec.ofNat 32 l.val) 4#32) 1#32)
                (IntOp.divsi ArithUnit.vector (BitVec.ofNat 32 l.val) 4#32)))) : EReal) = if a.val / 4 = l.val / 4 then 1 else 0 := by
  have h : ∀ a : Fin 64, (Scalar.select
                (IntOp.andi
                  (IntOp.cmpi CmpIPredicate.ne
                    (IntOp.subi (BitVec.setWidth 32 (IntOp.cmpi CmpIPredicate.sgt (BitVec.ofNat 32 a.val) 0#32))
                      (BitVec.setWidth 32 (IntOp.cmpi CmpIPredicate.slt (BitVec.ofNat 32 a.val) 0#32)))
                    (Scalar.subi (Scalar.extui (Scalar.cmpi CmpIPredicate.sgt 4#32 0#32))
                      (Scalar.extui (Scalar.cmpi CmpIPredicate.slt 4#32 0#32))))
                  (IntOp.cmpi CmpIPredicate.ne (IntOp.remsi ArithUnit.vector (BitVec.ofNat 32 a.val) 4#32) 0#32))
                (IntOp.subi (IntOp.divsi ArithUnit.vector (BitVec.ofNat 32 a.val) 4#32) 1#32)
                (IntOp.divsi ArithUnit.vector (BitVec.ofNat 32 a.val) 4#32) : BitVec 32) = BitVec.ofNat 32 (a.val / 4) := by decide +kernel
  rw [h, h]
  have h' : ∀ p q : Fin 16, BitVec.setWidth 32 (IntOp.cmpi CmpIPredicate.eq (BitVec.ofNat 32 p.val) (BitVec.ofNat 32 q.val)) = if p.val = q.val then 1#32 else 0#32 := by decide +kernel
  rw [h' ⟨a.val / 4, by omega⟩ ⟨l.val / 4, by omega⟩]
  show ((((if a.val / 4 = l.val / 4 then 1#32 else 0#32 : BitVec 32).toInt : ℝ)) : EReal) = _
  split <;> simp

/-- The key side's sums of squares. -/
theorem kgs_apply (kb : FVec Ideal S20000x64 .f32) (p : Fin 20000) (l : Fin 64) : kgs (F := Ideal) kb (ix2 p l) = gsum (krow kb p) l := by
  pointwise [kgs, k0_pay56, k0_pay57, k0_pay58, k0_pay59]
  simp only [mask_apply, mul_ite, mul_one, mul_zero]
  rw [← Finset.sum_filter]
  unfold gsum
  symm
  refine Finset.sum_bij (fun j _ => mate l j) (fun j _ => ?_) (fun a _ b _ h => ?_) (fun a ha => ?_) (fun j _ => rfl)
  · rw [Finset.mem_filter]
    refine ⟨Finset.mem_univ _, ?_⟩
    show (4 * (l.val / 4) + j.val) / 4 = l.val / 4
    omega
  · have := congrArg Fin.val h
    have : 4 * (l.val / 4) + a.val = 4 * (l.val / 4) + b.val := this
    exact Fin.ext (by omega)
  · have h := (Finset.mem_filter.mp ha).2
    exact ⟨⟨a.val % 4, by omega⟩, Finset.mem_univ _, Fin.ext (by show 4 * (l.val / 4) + a.val % 4 = a.val; omega)⟩

/-- The scan body's scores. -/
theorem kscore_apply (x : FVec Ideal S16x64 .f32) (kb : FVec Ideal S20000x64 .f32) (r : Fin 16) (p : Fin 20000) :
    kscore (F := Ideal) x kb (ix2 r p) = score (qrow x r) (krow kb p) := by
  unfold kscore
  pointwise [k0_pay1]
  rw [← sum_halved]
  refine Finset.sum_congr rfl fun l _ => ?_
  rw [kq_apply, kgs_apply]
  rfl

end Cert.Proof.Pure

end
-- ==== Proof.Pure.Rounds.lean ====
/-
  The eight rounds of a block over the extended reals, read at one row: each takes the greatest candidate and, among
  those that hold it, the least index.
-/
module

public import proofs.«01_k».proof.Proof.Pure.Select
public import proofs.«01_k».proof.Proof.Pure.Score
@[expose] public section

noncomputable section

namespace Cert.Proof.Pure

open Idealize.ShloMosaic
open Cert.KernelIdeal Cert.KernelIdeal.Gen Cert.Proof.Mem

/-- The pattern of minus infinity. -/
theorem neg_inf : Ideal.ofBits FTy.f32 0xFF800000#32 = (⊥ : EReal) := by
  simp [Ideal.ofBits, Ideal.ieee]

/-- The greatest of finitely many values, none being none's. -/
theorem foldMax {N : ℕ} (hN : 0 < N) (f : Fin N → EReal) :
    (∀ p, f p ≤ Finset.fold max (Ideal.ofBits FTy.f32 0xFF800000#32) f Finset.univ)
      ∧ ∃ p, f p = Finset.fold max (Ideal.ofBits FTy.f32 0xFF800000#32) f Finset.univ := by
  have h1 : ∀ p, f p ≤ Finset.fold max (Ideal.ofBits FTy.f32 0xFF800000#32) f Finset.univ := fun p =>
    Finset.le_fold_max _ |>.mpr (.inr ⟨p, Finset.mem_univ _, le_rfl⟩)
  refine ⟨h1, ?_⟩
  rcases (Finset.le_fold_max _).mp (le_refl (Finset.fold max (Ideal.ofBits FTy.f32 0xFF800000#32) f Finset.univ)) with h | ⟨p, -, h⟩
  · refine ⟨⟨0, hN⟩, le_antisymm (h1 _) ?_⟩
    rw [neg_inf] at h ⊢
    exact h.trans bot_le
  · exact ⟨p, le_antisymm (h1 p) h⟩

/-- The signed lesser of two words that are not negative. -/
theorem minsi_toNat (a b : BitVec 32) (ha : a.toNat < 2147483648) (hb : b.toNat < 2147483648) :
    IntOp.minsi a b = if a.toNat < b.toNat then a else b := by
  unfold IntOp.minsi
  have : a.slt b = decide (a.toNat < b.toNat) := by
    rw [BitVec.slt_eq_decide, BitVec.toInt_eq_toNat_of_lt (by omega), BitVec.toInt_eq_toNat_of_lt (by omega)]
    exact decide_eq_decide.mpr (by omega)
  rw [this]
  by_cases h : a.toNat < b.toNat <;> simp [h]

/-- The least of finitely many words that are not negative. -/
theorem foldMin {N : ℕ} (g : Fin N → BitVec 32) (hg : ∀ p, (g p).toNat < 2147483648) :
    (∀ p, (Finset.fold IntOp.minsi 2147483647#32 g Finset.univ).toNat ≤ (g p).toNat)
      ∧ (Finset.fold IntOp.minsi 2147483647#32 g Finset.univ = 2147483647#32 ∨ ∃ p, Finset.fold IntOp.minsi 2147483647#32 g Finset.univ = g p) := by
  classical
  have : ∀ t : Finset (Fin N), (Finset.fold IntOp.minsi 2147483647#32 g t).toNat < 2147483648
      ∧ (∀ p ∈ t, (Finset.fold IntOp.minsi 2147483647#32 g t).toNat ≤ (g p).toNat)
      ∧ (Finset.fold IntOp.minsi 2147483647#32 g t = 2147483647#32 ∨ ∃ p ∈ t, Finset.fold IntOp.minsi 2147483647#32 g t = g p) := by
    intro t
    induction t using Finset.induction_on with
    | empty => exact ⟨by rw [Finset.fold_empty]; decide, by simp, .inl rfl⟩
    | insert a t ha ih =>
      obtain ⟨h1, h2, h3⟩ := ih
      rw [Finset.fold_insert ha, minsi_toNat _ _ (hg a) h1]
      by_cases h : (g a).toNat < (Finset.fold IntOp.minsi 2147483647#32 g t).toNat
      · rw [if_pos h]
        refine ⟨hg a, fun p hp => ?_, .inr ⟨a, Finset.mem_insert_self _ _, rfl⟩⟩
        rcases Finset.mem_insert.mp hp with rfl | hp
        · exact le_rfl
        · exact (Nat.le_of_lt h).trans (h2 p hp)
      · rw [if_neg h]
        refine ⟨h1, fun p hp => ?_, h3.imp id fun ⟨p, hp, e⟩ => ⟨p, Finset.mem_insert_of_mem hp, e⟩⟩
        rcases Finset.mem_insert.mp hp with rfl | hp
        · omega
        · exact h2 p hp
  obtain ⟨-, h2, h3⟩ := this Finset.univ
  exact ⟨fun p => h2 p (Finset.mem_univ _), h3.imp id fun ⟨p, _, e⟩ => ⟨p, e⟩⟩

/-! ## The rounds, read at a row -/

section Rounds

variable (CV : FVec Ideal S16x20008 .f32) (CI : IVec S16x20008 32) (r : Fin 16)

theorem roundMax_apply : roundMax (F := Ideal) CV (ix1 r)
    = Finset.fold max (Ideal.ofBits FTy.f32 0xFF800000#32) (fun p : Fin 20008 => CV (ix2 r p)) Finset.univ := by
  pointwise [roundMax]

theorem roundIdx_apply : roundIdx (F := Ideal) CI CV (ix1 r)
    = Finset.fold IntOp.minsi 2147483647#32 (fun p : Fin 20008 => if CV (ix2 r p) = roundMax (F := Ideal) CV (ix1 r) then CI (ix2 r p) else 2147483647#32) Finset.univ := by
  pointwise [roundIdx, roundSel]

theorem roundNext_apply (p : Fin 20008) : roundNext (F := Ideal) CI CV (ix2 r p)
    = if CV (ix2 r p) = roundMax (F := Ideal) CV (ix1 r) ∧ CI (ix2 r p) = roundIdx (F := Ideal) CI CV (ix1 r) then ⊥ else CV (ix2 r p) := by
  have h : roundNext (F := Ideal) CI CV (ix2 r p) = Scalar.select
      (IntOp.andi (BitVec.ofBool (decide (CV (ix2 r p) = roundMax (F := Ideal) CV (ix1 r))))
        (IntOp.cmpi CmpIPredicate.eq (CI (ix2 r p)) (roundIdx (F := Ideal) CI CV (ix1 r))))
      (Ideal.ofBits FTy.f32 0xFF800000#32) (CV (ix2 r p)) := by
    pointwise [roundNext, roundSel]
  rw [h, neg_inf]
  have hc : IntOp.cmpi CmpIPredicate.eq (CI (ix2 r p)) (roundIdx (F := Ideal) CI CV (ix1 r))
      = BitVec.ofBool (decide (CI (ix2 r p) = roundIdx (F := Ideal) CI CV (ix1 r))) := by
    unfold IntOp.cmpi
    simp [beq_eq_decide]
  rw [hc]
  by_cases h1 : CV (ix2 r p) = roundMax (F := Ideal) CV (ix1 r) <;> by_cases h2 : CI (ix2 r p) = roundIdx (F := Ideal) CI CV (ix1 r) <;>
    simp [h1, h2, IntOp.andi, Scalar.select]

/-- The candidates of a row before round `k`. -/
def rcand (k : ℕ) (p : Fin 20008) : EReal := cand (F := Ideal) CI CV k (ix2 r p)

/-- The eight rounds choose the row's eight first candidates. -/
theorem picks_row (s : ℕ → EReal) (hlt : ∀ p, (CI (ix2 r p)).toNat < 2147483648)
    (hinj : ∀ p q : Fin 20008, ⊥ < CV (ix2 r p) → ⊥ < CV (ix2 r q) → (CI (ix2 r p)).toNat = (CI (ix2 r q)).toNat → p = q)
    (hs : ∀ p : Fin 20008, ⊥ < CV (ix2 r p) → s (CI (ix2 r p)).toNat = CV (ix2 r p))
    (hfew : ∀ k : Fin 20008, k.val < 8 → ⊥ < CV (ix2 r k)) :
    Picks s {n | ∃ p : Fin 20008, ⊥ < CV (ix2 r p) ∧ (CI (ix2 r p)).toNat = n} (fun k => (roundIdx (F := Ideal) CI (cand CI CV k) (ix1 r)).toNat)
      ∧ ∀ k < 8, roundMax (F := Ideal) (cand CI CV k) (ix1 r) = s (roundIdx (F := Ideal) CI (cand CI CV k) (ix1 r)).toNat := by
  have hmax := fun k => foldMax (by omega) (fun p : Fin 20008 => rcand CV CI r k p)
  have hmin := fun k => foldMin (fun p : Fin 20008 => if rcand CV CI r k p = roundMax (F := Ideal) (cand CI CV k) (ix1 r) then CI (ix2 r p) else 2147483647#32)
    (fun p => by split; exact hlt p; decide)
  have eM : ∀ k, roundMax (F := Ideal) (cand CI CV k) (ix1 r)
      = Finset.fold max (Ideal.ofBits FTy.f32 0xFF800000#32) (fun p : Fin 20008 => rcand CV CI r k p) Finset.univ := fun k => roundMax_apply _ _
  have eI : ∀ k, roundIdx (F := Ideal) CI (cand CI CV k) (ix1 r)
      = Finset.fold IntOp.minsi 2147483647#32 (fun p : Fin 20008 => if rcand CV CI r k p = roundMax (F := Ideal) (cand CI CV k) (ix1 r) then CI (ix2 r p) else 2147483647#32) Finset.univ :=
    fun k => roundIdx_apply _ _ _
  refine picks_rounds (N := 20008) (val := fun p => CV (ix2 r p)) (idx := fun p => (CI (ix2 r p)).toNat) (cv := rcand CV CI r)
    (mx := fun k => roundMax (F := Ideal) (cand CI CV k) (ix1 r)) (fun p => rfl) (fun k _ p => ?_) (fun k _ => ?_) (fun k _ p hp => ?_) (fun k _ => ?_)
    (fun k _ p => ?_) hinj hs (e := fun k => ⟨k % 20008, Nat.mod_lt _ (by decide)⟩) (fun k hk => hfew _ ?_) (fun k hk j hj h => ?_)
  · rw [eM]; exact (hmax k).1 p
  · obtain ⟨p, hp⟩ := (hmax k).2
    exact ⟨p, by rw [eM]; exact hp⟩
  · have := (hmin k).1 p
    simp only [if_pos hp] at this
    rw [eI]; exact this
  · rw [eI]
    obtain ⟨p₀, hp₀⟩ := (hmax k).2
    simp only [← eM] at hp₀
    have himax : Finset.fold IntOp.minsi 2147483647#32 (fun p : Fin 20008 => if rcand CV CI r k p = roundMax (F := Ideal) (cand CI CV k) (ix1 r) then CI (ix2 r p) else 2147483647#32) Finset.univ = 2147483647#32 →
        ∃ p, rcand CV CI r k p = roundMax (F := Ideal) (cand CI CV k) (ix1 r) ∧ (CI (ix2 r p)).toNat
          = (Finset.fold IntOp.minsi 2147483647#32 (fun p : Fin 20008 => if rcand CV CI r k p = roundMax (F := Ideal) (cand CI CV k) (ix1 r) then CI (ix2 r p) else 2147483647#32) Finset.univ).toNat := by
      intro h
      have := (hmin k).1 p₀
      simp only [if_pos hp₀] at this
      rw [h] at this ⊢
      refine ⟨p₀, hp₀, ?_⟩
      have h2 := hlt p₀
      have h3 : (2147483647#32 : BitVec 32).toNat = 2147483647 := rfl
      omega
    rcases (hmin k).2 with h | ⟨p, hp⟩
    · exact himax h
    · by_cases hc : rcand CV CI r k p = roundMax (F := Ideal) (cand CI CV k) (ix1 r)
      · refine ⟨p, hc, ?_⟩
        rw [hp, if_pos hc]
      · rw [if_neg hc] at hp
        exact himax hp
  · show roundNext (F := Ideal) CI (cand CI CV k) (ix2 r p) = _
    rw [roundNext_apply]
    have : CI (ix2 r p) = roundIdx (F := Ideal) CI (cand CI CV k) (ix1 r) ↔ (CI (ix2 r p)).toNat = (roundIdx (F := Ideal) CI (cand CI CV k) (ix1 r)).toNat :=
      BitVec.toNat_inj.symm
    simp only [this]
    rfl
  · show k % 20008 < 8
    omega
  · have := congrArg Fin.val h
    have : j % 20008 = k % 20008 := this
    omega

end Rounds

/-! ## The lists -/

theorem putCol_apply {α : Type} (k : BitVec 32) (v : S16.Idx → α) (acc : S16x8.Idx → α) (r : Fin 16) (j : Fin 8) :
    putCol k v acc (ix2 r j) = Scalar.select (IntOp.cmpi .eq (BitVec.ofNat 32 j.val) k) (v (ix1 r)) (acc (ix2 r j)) := by
  pointwise [putCol]

theorem cols8_apply {α : Type} (v : ℕ → S16.Idx → α) (acc : S16x8.Idx → α) (r : Fin 16) (j : Fin 8) : cols8 v acc (ix2 r j) = v j.val (ix1 r) := by
  unfold cols8
  simp only [putCol_apply]
  fin_cases j <;> rfl

theorem pay8_apply (x : FVec Ideal S16x20000 .f32) (tv : FVec Ideal S16x8 .f32) (r : Fin 16) (p : Fin 20008) :
    k0_pay8 (F := Ideal) x tv (ix2 r p) = if h : p.val < 20000 then x (ix2 r ⟨p.val, h⟩) else tv (ix2 r ⟨p.val - 20000, by omega⟩) := by
  pointwise [k0_pay8]

theorem pay9_apply (a : BitVec 32) (ti : IVec S16x8 32) (r : Fin 16) (p : Fin 20008) :
    k0_pay9 (F := Ideal) (k0_pay2 a) ti (ix2 r p)
      = if h : p.val < 20000 then IntOp.addi (BitVec.ofNat 32 p.val) (Scalar.muli a 20000#32) else ti (ix2 r ⟨p.val - 20000, by omega⟩) := by
  pointwise [k0_pay9, k0_pay2]

/-- A key's index as a word. -/
theorem place_toNat (b p : ℕ) (hb : b < 50) (hp : p < 20000) :
    (IntOp.addi (BitVec.ofNat 32 p) (Scalar.muli (BitVec.ofNat 32 b) 20000#32) : BitVec 32).toNat = 20000 * b + p := by
  show (BitVec.ofNat 32 p + BitVec.ofNat 32 b * 20000#32).toNat = _
  rw [BitVec.toNat_add, BitVec.toNat_mul, BitVec.toNat_ofNat, BitVec.toNat_ofNat, show (20000#32 : BitVec 32).toNat = 20000 from rfl]
  omega

end Cert.Proof.Pure

end
-- ==== Proof.Pure.Merge.lean ====
/-
  One block of the scan over the extended reals: from a row's eight first places among the keys of the earlier blocks,
  held as values and indices, the body makes the row's eight first places among those and the block's keys.
-/
module

public import proofs.«01_k».proof.Proof.Pure.Rounds
@[expose] public section

noncomputable section

namespace Cert.Proof.Pure

open Idealize.ShloMosaic
open Cert.KernelIdeal Cert.KernelIdeal.Gen Cert.Proof.Mem

/-- The state of a row's lists after the first `n` keys: its eight first places, their values and indices. -/
def Good (s : ℕ → EReal) (r : Fin 16) (n : ℕ) (tv : FVec Ideal S16x8 .f32) (ti : IVec S16x8 32) : Prop :=
  ∃ i, Picks s {m | m < n} i ∧ ∀ k : Fin 8, tv (ix2 r k) = s (i k.val) ∧ (ti (ix2 r k)).toNat = i k.val

/-- The body's new values, read at a place. -/
theorem newV_apply (a : BitVec 32) (x : FVec Ideal S16x64 .f32) (kb : FVec Ideal S20000x64 .f32) (tv : FVec Ideal S16x8 .f32) (ti : IVec S16x8 32)
    (r : Fin 16) (k : Fin 8) : (scanPay (F := Ideal) a).newV x kb tv ti (ix2 r k)
      = roundMax (F := Ideal) (cand (k0_pay9 (F := Ideal) (k0_pay2 a) ti) (k0_pay8 (F := Ideal) (kscore x kb) tv) k.val) (ix1 r) := by
  exact cols8_apply (fun k => roundMax (F := Ideal) (cand (k0_pay9 (F := Ideal) (k0_pay2 a) ti) (k0_pay8 (F := Ideal) (kscore x kb) tv) k)) _ r k

/-- The body's new indices, read at a place. -/
theorem newI_apply (a : BitVec 32) (x : FVec Ideal S16x64 .f32) (kb : FVec Ideal S20000x64 .f32) (tv : FVec Ideal S16x8 .f32) (ti : IVec S16x8 32)
    (r : Fin 16) (k : Fin 8) : (scanPay (F := Ideal) a).newI x kb tv ti (ix2 r k)
      = roundIdx (F := Ideal) (k0_pay9 (F := Ideal) (k0_pay2 a) ti) (cand (k0_pay9 (F := Ideal) (k0_pay2 a) ti) (k0_pay8 (F := Ideal) (kscore x kb) tv) k.val) (ix1 r) := by
  exact cols8_apply (fun k => roundIdx (F := Ideal) (k0_pay9 (F := Ideal) (k0_pay2 a) ti) (cand (k0_pay9 (F := Ideal) (k0_pay2 a) ti)
    (k0_pay8 (F := Ideal) (kscore x kb) tv) k)) _ r k

section Block

variable (s : ℕ → EReal) (hfin : ∀ n, ⊥ < s n) (r : Fin 16) (b : ℕ) (hb : b < 50)
  (x : FVec Ideal S16x64 .f32) (kb : FVec Ideal S20000x64 .f32) (hsc : ∀ p : Fin 20000, kscore (F := Ideal) x kb (ix2 r p) = s (20000 * b + p.val))

include hfin hb hsc

theorem cv_low (tv : FVec Ideal S16x8 .f32) (p : Fin 20008) (h : p.val < 20000) : k0_pay8 (F := Ideal) (kscore x kb) tv (ix2 r p) = s (20000 * b + p.val) := by
  rw [pay8_apply, dif_pos h, hsc]

/-- The merge at the first block, from empty lists. -/
theorem merge_first (hb0 : b = 0) : Good s r 20000 ((scanPay (F := Ideal) (BitVec.ofNat 32 b)).newV x kb (k0_pay3 (F := Ideal)) (k0_pay4))
    ((scanPay (F := Ideal) (BitVec.ofNat 32 b)).newI x kb (k0_pay3 (F := Ideal)) (k0_pay4)) := by
  subst hb0
  have hlow := cv_low s hfin r 0 hb x kb hsc (k0_pay3 (F := Ideal))
  have hhigh : ∀ p : Fin 20008, ¬ p.val < 20000 → k0_pay8 (F := Ideal) (kscore x kb) (k0_pay3 (F := Ideal)) (ix2 r p) = ⊥ := fun p h => by
    rw [pay8_apply, dif_neg h]
    exact neg_inf
  have hgood : ∀ p : Fin 20008, ⊥ < k0_pay8 (F := Ideal) (kscore x kb) (k0_pay3 (F := Ideal)) (ix2 r p) → p.val < 20000 := fun p h => by
    by_contra hc
    rw [hhigh p hc] at h
    exact lt_irrefl _ h
  have hidx : ∀ p : Fin 20008, p.val < 20000 → (k0_pay9 (F := Ideal) (k0_pay2 (BitVec.ofNat 32 0)) k0_pay4 (ix2 r p)).toNat = 20000 * 0 + p.val := fun p h => by
    rw [pay9_apply, dif_pos h, place_toNat 0 p.val hb h]
  obtain ⟨h1, h2⟩ := picks_row (k0_pay8 (F := Ideal) (kscore x kb) (k0_pay3 (F := Ideal))) (k0_pay9 (F := Ideal) (k0_pay2 (BitVec.ofNat 32 0)) k0_pay4) r s
    (fun p => by
      by_cases h : p.val < 20000
      · rw [hidx p h]; omega
      · rw [pay9_apply, dif_neg h]; show (2147483647#32 : BitVec 32).toNat < _; decide)
    (fun p q hp hq h => by
      rw [hidx p (hgood p hp), hidx q (hgood q hq)] at h
      exact Fin.ext (by omega))
    (fun p hp => by rw [hidx p (hgood p hp), hlow p (hgood p hp)])
    (fun k hk => by rw [hlow k (by omega)]; exact hfin _)
  refine ⟨fun k => (roundIdx (F := Ideal) (k0_pay9 (F := Ideal) (k0_pay2 (BitVec.ofNat 32 0)) k0_pay4) (cand (k0_pay9 (F := Ideal) (k0_pay2 (BitVec.ofNat 32 0)) k0_pay4) (k0_pay8 (F := Ideal) (kscore x kb) (k0_pay3 (F := Ideal))) k) (ix1 r)).toNat, ?_,
    fun k => ⟨(newV_apply _ x kb _ _ r k).trans (h2 k.val k.isLt), congrArg BitVec.toNat (newI_apply _ x kb _ _ r k)⟩⟩
  · have e : {n | ∃ p : Fin 20008, ⊥ < k0_pay8 (F := Ideal) (kscore x kb) (k0_pay3 (F := Ideal)) (ix2 r p) ∧ (k0_pay9 (F := Ideal) (k0_pay2 (BitVec.ofNat 32 0)) k0_pay4 (ix2 r p)).toNat = n}
        = {m | m < 20000} := by
      ext n
      constructor
      · rintro ⟨p, hp, rfl⟩
        have := hgood p hp
        rw [Set.mem_setOf_eq, hidx p this]; omega
      · intro hn
        have hn : n < 20000 := hn
        refine ⟨⟨n, by omega⟩, ?_, ?_⟩
        · rw [hlow ⟨n, by omega⟩ hn]; exact hfin _
        · rw [hidx ⟨n, by omega⟩ hn]; simp
    rw [e] at h1
    exact h1

/-- The merge at a later block. -/
theorem merge_later (tv : FVec Ideal S16x8 .f32) (ti : IVec S16x8 32) (hg : Good s r (20000 * b) tv ti) :
    Good s r (20000 * (b + 1)) ((scanPay (F := Ideal) (BitVec.ofNat 32 b)).newV x kb tv ti) ((scanPay (F := Ideal) (BitVec.ofNat 32 b)).newI x kb tv ti) := by
  obtain ⟨i, hi, hti⟩ := hg
  have hlow := cv_low s hfin r b hb x kb hsc tv
  have hil : ∀ k < 8, i k < 20000 * b := fun k hk => hi.mem k hk
  have hinj : ∀ a b : ℕ, a < 8 → b < 8 → i a = i b → a = b := fun a b ha hb h => by
    rcases Nat.lt_trichotomy a b with l | l | l
    · exact absurd h (hi.ne b hb a l)
    · exact l
    · exact absurd h.symm (hi.ne a ha b l)
  have hhigh : ∀ (p : Fin 20008), ¬ p.val < 20000 → k0_pay8 (F := Ideal) (kscore x kb) tv (ix2 r p) = s (i (p.val - 20000)) := fun p h => by
    rw [pay8_apply, dif_neg h]
    exact (hti ⟨p.val - 20000, by omega⟩).1
  have hidx : ∀ p : Fin 20008, p.val < 20000 → (k0_pay9 (F := Ideal) (k0_pay2 (BitVec.ofNat 32 b)) ti (ix2 r p)).toNat = 20000 * b + p.val := fun p h => by
    rw [pay9_apply, dif_pos h, place_toNat b p.val hb h]
  have hidx' : ∀ p : Fin 20008, ¬ p.val < 20000 → (k0_pay9 (F := Ideal) (k0_pay2 (BitVec.ofNat 32 b)) ti (ix2 r p)).toNat = i (p.val - 20000) := fun p h => by
    rw [pay9_apply, dif_neg h]
    exact (hti ⟨p.val - 20000, by omega⟩).2
  have hval : ∀ p : Fin 20008, k0_pay8 (F := Ideal) (kscore x kb) tv (ix2 r p) = s (k0_pay9 (F := Ideal) (k0_pay2 (BitVec.ofNat 32 b)) ti (ix2 r p)).toNat := fun p => by
    by_cases h : p.val < 20000
    · rw [hidx p h, hlow p h]
    · rw [hidx' p h, hhigh p h]
  obtain ⟨h1, h2⟩ := picks_row (k0_pay8 (F := Ideal) (kscore x kb) tv) (k0_pay9 (F := Ideal) (k0_pay2 (BitVec.ofNat 32 b)) ti) r s
    (fun p => by
      by_cases h : p.val < 20000
      · rw [hidx p h]; omega
      · rw [hidx' p h]; have := hil (p.val - 20000) (by omega); omega)
    (fun p q _ _ h => by
      by_cases hp : p.val < 20000 <;> by_cases hq : q.val < 20000
      · rw [hidx p hp, hidx q hq] at h; exact Fin.ext (by omega)
      · rw [hidx p hp, hidx' q hq] at h; have := hil (q.val - 20000) (by omega); omega
      · rw [hidx' p hp, hidx q hq] at h; have := hil (p.val - 20000) (by omega); omega
      · rw [hidx' p hp, hidx' q hq] at h
        have := hinj (p.val - 20000) (q.val - 20000) (by omega) (by omega) h
        exact Fin.ext (by omega))
    (fun p _ => (hval p).symm)
    (fun k _ => by rw [hval]; exact hfin _)
  refine ⟨fun k => (roundIdx (F := Ideal) (k0_pay9 (F := Ideal) (k0_pay2 (BitVec.ofNat 32 b)) ti) (cand (k0_pay9 (F := Ideal) (k0_pay2 (BitVec.ofNat 32 b)) ti) (k0_pay8 (F := Ideal) (kscore x kb) tv) k) (ix1 r)).toNat, ?_,
    fun k => ⟨(newV_apply _ x kb _ _ r k).trans (h2 k.val k.isLt), congrArg BitVec.toNat (newI_apply _ x kb _ _ r k)⟩⟩
  · have e : {n | ∃ p : Fin 20008, ⊥ < k0_pay8 (F := Ideal) (kscore x kb) tv (ix2 r p) ∧ (k0_pay9 (F := Ideal) (k0_pay2 (BitVec.ofNat 32 b)) ti (ix2 r p)).toNat = n}
        = {n | ∃ k < 8, i k = n} ∪ {n | 20000 * b ≤ n ∧ n < 20000 * (b + 1)} := by
      ext n
      constructor
      · rintro ⟨p, -, rfl⟩
        by_cases h : p.val < 20000
        · right
          rw [hidx p h]
          show 20000 * b ≤ 20000 * b + p.val ∧ 20000 * b + p.val < 20000 * (b + 1)
          omega
        · left
          exact ⟨p.val - 20000, by omega, (hidx' p h).symm⟩
      · rintro (⟨k, hk, rfl⟩ | ⟨hn, hn'⟩)
        · refine ⟨⟨20000 + k, by omega⟩, ?_, ?_⟩
          · rw [hval]; exact hfin _
          · rw [hidx' ⟨20000 + k, by omega⟩ (by simp)]
            simp
        · refine ⟨⟨n - 20000 * b, by omega⟩, ?_, ?_⟩
          · rw [hval]; exact hfin _
          · rw [hidx ⟨n - 20000 * b, by omega⟩ (by show n - 20000 * b < 20000; omega)]
            show 20000 * b + (n - 20000 * b) = n
            omega
    rw [e] at h1
    have := hi.merge h1
    have e' : ({m | m < 20000 * b} ∪ {n | 20000 * b ≤ n ∧ n < 20000 * (b + 1)} : Set ℕ) = {m | m < 20000 * (b + 1)} := by
      ext n
      show (n < 20000 * b ∨ (20000 * b ≤ n ∧ n < 20000 * (b + 1))) ↔ n < 20000 * (b + 1)
      omega
    rw [e'] at this
    exact this

/-- A block none of whose scores is above the row's eighth changes nothing. -/
theorem skip_block (tv : FVec Ideal S16x8 .f32) (ti : IVec S16x8 32) (hg : Good s r (20000 * b) tv ti)
    (hle : ∀ p : Fin 20000, kscore (F := Ideal) x kb (ix2 r p) ≤ tv (ix2 r 7)) : Good s r (20000 * (b + 1)) tv ti := by
  obtain ⟨i, hi, hti⟩ := hg
  refine ⟨i, ?_, hti⟩
  have := hi.skip (U := {n | 20000 * b ≤ n ∧ n < 20000 * (b + 1)}) (fun n ⟨hn, hn'⟩ => ⟨?_, fun t ht => lt_of_lt_of_le ht hn⟩)
  · have e' : ({m | m < 20000 * b} ∪ {n | 20000 * b ≤ n ∧ n < 20000 * (b + 1)} : Set ℕ) = {m | m < 20000 * (b + 1)} := by
      ext n
      show (n < 20000 * b ∨ (20000 * b ≤ n ∧ n < 20000 * (b + 1))) ↔ n < 20000 * (b + 1)
      omega
    rw [e'] at this
    exact this
  · have h := hle ⟨n - 20000 * b, by omega⟩
    rw [hsc, (hti 7).1] at h
    have e : 20000 * b + (n - 20000 * b) = n := by omega
    simp only [e] at h
    exact h

end Block

end Cert.Proof.Pure

end
-- ==== Proof.Pure.Gate.lean ====
/-
  The scan's gate over the extended reals: it opens just when some row has a score above the last of its running list.
-/
module

public import proofs.«01_k».proof.Proof.Pure.Score

@[expose] public section

noncomputable section

namespace Cert.Proof.Pure

open Idealize.ShloMosaic
open Cert.KernelIdeal Cert.KernelIdeal.Gen Cert.Proof.Mem

/-- The body's reading of the gate: a nested greatest over rows and places. -/
theorem pay5_apply (x : FVec Ideal S16x64 .f32) (kb g : FVec Ideal S20000x64 .f32) (col : FVec Ideal S16x1 .f32) :
    k0_pay5 (F := Ideal) x kb g col = Finset.fold max (Ideal.ofBits FTy.f32 0xFF800000#32) (fun r : Fin 16 =>
      if col (ix2 r 0) < Finset.fold max (Ideal.ofBits FTy.f32 0xFF800000#32) (fun p : Fin 20000 => k0_pay1 (F := Ideal) x kb g (ix2 r p)) Finset.univ
      then (1 : EReal) else 0) Finset.univ := by
  pointwise [k0_pay5]

/-- The test that follows: is the value above nought? -/
theorem gate_bit (v : EReal) : (Scalar.cmpi .ne (Scalar.extui (Scalar.cmpf (F := Ideal) (φ := .f32) .ogt v (Scalar.ofBits .f32 0x00000000#32)) : BitVec 32) 0#32 : BitVec 1) = 1#1
    ↔ 0 < v := by
  have h1 : ∀ c : Prop, [Decidable c] → ((Scalar.cmpi .ne (Scalar.extui (BitVec.ofBool (decide c)) : BitVec 32) 0#32 : BitVec 1) = 1#1 ↔ c) := by
    intro c _
    by_cases hc : c <;> simp [hc] <;> decide
  have h2 : Scalar.cmpf (F := Ideal) (φ := .f32) .ogt v (Scalar.ofBits .f32 0x00000000#32) = BitVec.ofBool (decide (0 < v)) := by
    have : (Scalar.ofBits (F := Ideal) .f32 0x00000000#32 : EReal) = 0 := by
      show Ideal.ofBits FTy.f32 0x00000000#32 = 0
      simp [Ideal.ofBits, Ideal.ieee]
    rw [this]
    rfl
  rw [h2, h1]

/-- The nested greatest is above nought just when some entry is above its row's bound. -/
theorem fold_gate {R N : ℕ} (z : EReal) (hz : z = ⊥) (f : Fin R → Fin N → EReal) (c : Fin R → EReal) :
    0 < Finset.fold max z (fun r : Fin R => if c r < Finset.fold max z (fun p : Fin N => f r p) Finset.univ then (1 : EReal) else 0) Finset.univ
      ↔ ∃ r p, c r < f r p := by
  subst hz
  rw [Finset.lt_fold_max]
  constructor
  · rintro (h | ⟨r, -, h⟩)
    · exact absurd h not_lt_bot
    · by_cases hc : c r < Finset.fold max ⊥ (fun p : Fin N => f r p) Finset.univ
      · rcases (Finset.lt_fold_max _).mp hc with h' | ⟨p, -, h'⟩
        · exact absurd h' not_lt_bot
        · exact ⟨r, p, h'⟩
      · rw [if_neg hc] at h
        exact absurd h (lt_irrefl _)
  · rintro ⟨r, p, h⟩
    refine .inr ⟨r, Finset.mem_univ _, ?_⟩
    rw [if_pos ((Finset.lt_fold_max _).mpr (.inr ⟨p, Finset.mem_univ _, h⟩))]
    exact zero_lt_one

/-- The gate opens just when some row has a score above its column's entry. -/
theorem gate_iff (x : FVec Ideal S16x64 .f32) (kb : FVec Ideal S20000x64 .f32) (col : FVec Ideal S16x1 .f32) :
    kgate (F := Ideal) x kb col = 1#1 ↔ ∃ (r : Fin 16) (p : Fin 20000), col (ix2 r 0) < kscore (F := Ideal) x kb (ix2 r p) := by
  unfold kgate kscore
  rw [gate_bit, pay5_apply]
  exact fold_gate _ (by simp [Ideal.ofBits, Ideal.ieee]) (fun r p => k0_pay1 (F := Ideal) (kq x) kb (kgs kb) (ix2 r p)) (fun r => col (ix2 r 0))

/-- The body's read of the last column. -/
theorem lastCol_apply (tv : FVec Ideal S16x8 .f32) (r : Fin 16) :
    View.ld (Val := Elt Ideal) (e' := .f32) tv lastCol (ix2 r 0) = tv (ix2 r 7) := by
  show tv (lastCol.idx (ix2 r 0)) = tv (ix2 r 7)
  congr 1
  funext a
  apply Fin.ext
  fin_cases a
  · simp [lastCol, Rect.unit]
  · simp [lastCol, Rect.unit]

end Cert.Proof.Pure

end
-- ==== Proof.Pure.Runs.lean ====
/-
  The scan over the extended reals, block by block: after block `n` the running lists hold, for every query, the eight
  first places among the keys read so far. So the table made of them names keys.
-/
module

public import proofs.«01_k».proof.Proof.Mem.KernelRun
public import proofs.«01_k».proof.Proof.Pure.Merge
public import proofs.«01_k».proof.Proof.Pure.Gate
public import Idealize.ShloMosaic.Lib.Pipeline.ValueKit

@[expose] public section

noncomputable section

namespace Cert.Proof.Pure

open Idealize.ShloMosaic
open Cert.KernelIdeal Cert.KernelIdeal.Gen Cert.Proof.Mem

section Blocks

variable {F : FTy → Type} [FloatOps F] [Named F]
variable (m : (ℓ : Loc nD τ sig) → Buf (Elt F) ℓ) (c : Dev nD)

/-- The queries given. -/
def argX : Vec F S16x64 .f32 := m ((c.tc : Thread nD τ).loc main_arg0)

/-- The keys given. -/
def argK : Vec F S1000000x64 .f32 := m ((c.tc : Thread nD τ).loc main_arg1)

/-- The scan's grid coordinate of a point is its number. -/
theorem coord0_val (t : Fin grid0.N) : (grid0.coords t 0).val = t.val := by
  revert t; decide +kernel

theorem index0_0 (t : Fin cfg0.N) : win0_0.index t = ![0, 0] := by
  revert t; decide +kernel

theorem index0_1 (t : Fin cfg0.N) : win0_1.index t = ![(grid0.coords t 0).val, 0] := by
  revert t; decide +kernel

/-- Every point reads the queries whole. -/
theorem scanX_apply (t : Fin cfg0.N) (r : Fin 16) (l : Fin 64) : scanX m c t (ix2 r l) = argX m c (ix2 r l) := by
  unfold scanX scanA argX
  blk_simp
  refine congrArg (m ((c.tc : Thread nD τ).loc main_arg0)) (funext fun a => Fin.ext ?_)
  match a with
  | ⟨0, _⟩ => blk_simp [index0_0]
  | ⟨1, _⟩ => blk_simp [index0_0]

/-- Point `t` reads the keys from `20000 t` on. -/
theorem scanK_apply (t : Fin cfg0.N) (p : Fin 20000) (l : Fin 64) (n : Fin 1000000) (hn : n.val = 20000 * t.val + p.val) :
    scanK m c t (ix2 p l) = argK m c (ix2 n l) := by
  unfold scanK scanA argK
  blk_simp
  refine congrArg (m ((c.tc : Thread nD τ).loc main_arg1)) (funext fun a => Fin.ext ?_)
  match a with
  | ⟨0, _⟩ =>
    blk_simp [index0_1]
    show (grid0.coords t 0).val * 20000 + p.val = n.val
    rw [coord0_val, hn, Nat.mul_comm]
  | ⟨1, _⟩ => blk_simp [index0_1]

/-- The scan's word at point `n`. -/
theorem scanWord_eq (n : ℕ) (hn : n < 50) : scanWord (pt50 n) = BitVec.ofNat 32 n := by
  unfold scanWord
  rw [show (grid0.coords (pt50 n) 0).val = n from (coord0_val (pt50 n)).trans (Nat.mod_eq_of_lt hn)]

theorem firstBit_pos (n : ℕ) (hn : n < 50) (h0 : n ≠ 0) : firstBit (BitVec.ofNat 32 n) ≠ 1#1 := by
  have : ∀ k : Fin 50, k.val ≠ 0 → firstBit (BitVec.ofNat 32 k.val) ≠ 1#1 := by decide
  exact this ⟨n, hn⟩ h0

/-- The table is the running indices laid out in one row. -/
theorem tblR_eq (c : Dev nD) : tblR m = shapeCast S128 (runs m c 49).2 shapeCasts_S16x8_S128 := by
  obtain rfl : c = ⟨0, by decide⟩ := Subsingleton.elim _ _
  rw [← outs1_1]
  unfold tblR VR
  after_results_simp
  rfl

theorem off1_val (i : grid1.Coords) (j : Fin 8) : k1_off1 i (BitVec.ofNat 32 j.val) 0 = 8 * (i 0).val + j.val := by
  revert i j; decide +kernel

theorem cast_apply {α : Type} (x : S16x8.Idx → α) (k : Fin 128) :
    shapeCast S128 x shapeCasts_S16x8_S128 (ix1 k) = x (ix2 ⟨k.val / 8, by omega⟩ ⟨k.val % 8, by omega⟩) := by
  pointwise

/-- The table's word for query `i`'s place `j` is its running list's. -/
theorem word_apply (c : Dev nD) (i : grid1.Coords) (j : Fin 8) : word (F := F) (tblR m) i j = (runs m c 49).2 (ix2 (i 0) j) := by
  rw [tblR_eq m c]
  have h1 : (i 0).val < 16 := (i 0).isLt
  have e : (wordRect i j).idx (Shape.Idx.first (numel1_S1.symm ▸ Nat.one_pos)) = ix1 (⟨8 * (i 0).val + j.val, by omega⟩ : Fin 128) := by
    funext a
    apply Fin.ext
    match a with
    | ⟨0, _⟩ =>
      simp [wordRect, Rect.unit]
      exact off1_val i j
  unfold word
  rw [e, cast_apply]
  refine congrArg (runs m c 49).2 (congrArg₂ ix2 (Fin.ext ?_) (Fin.ext ?_))
  · show (8 * (i 0).val + j.val) / 8 = (i 0).val; omega
  · show (8 * (i 0).val + j.val) % 8 = j.val; omega

end Blocks

variable (m : (ℓ : Loc nD τ sig) → Buf (Elt Ideal) ℓ) (c : Dev nD)

/-- The score of query `r` against key `n`. -/
def sc (X : FVec Ideal S16x64 .f32) (K : FVec Ideal S1000000x64 .f32) (r : Fin 16) (n : ℕ) : EReal :=
  if h : n < 1000000 then score (fun l => X (ix2 r l)) (fun l => K (ix2 ⟨n, h⟩ l)) else 0

/-- No score is minus infinity. -/
theorem sc_bot (X : FVec Ideal S16x64 .f32) (K : FVec Ideal S1000000x64 .f32) (r : Fin 16) (n : ℕ) : ⊥ < sc X K r n := by
  unfold sc
  split
  · obtain ⟨y, hy⟩ := score_real (fun l => X (ix2 r l)) (fun l => K (ix2 ⟨n, by assumption⟩ l))
    rw [hy]
    exact EReal.bot_lt_coe y
  · exact EReal.bot_lt_coe 0

/-- The scores a point computes are those of its block of keys. -/
theorem block_scores (n : ℕ) (hn : n < 50) (r : Fin 16) (p : Fin 20000) :
    kscore (F := Ideal) (scanX m c (pt50 n)) (scanK m c (pt50 n)) (ix2 r p) = sc (argX m c) (argK m c) r (20000 * n + p.val) := by
  have hlt : 20000 * n + p.val < 1000000 := by omega
  rw [kscore_apply]
  unfold sc
  rw [dif_pos hlt]
  congr 1
  · funext l
    exact scanX_apply m c (pt50 n) r l
  · funext l
    exact scanK_apply m c (pt50 n) p l ⟨_, hlt⟩ (by show 20000 * n + p.val = 20000 * (n % 50) + p.val; rw [Nat.mod_eq_of_lt hn])

/-- The body's gate opens when some score is above its row's last. -/
theorem gate_open (a : BitVec 32) (x : FVec Ideal S16x64 .f32) (kb : FVec Ideal S20000x64 .f32) (col : FVec Ideal S16x1 .f32)
    (h : ∃ (r : Fin 16) (p : Fin 20000), col (ix2 r 0) < kscore (F := Ideal) x kb (ix2 r p)) : (scanPay (F := Ideal) a).gate x kb col = 1#1 := by
  have e : (scanPay (F := Ideal) a).gate = kgate := by simp only [scanPay]
  rw [e]
  exact (gate_iff x kb col).mpr h

/-- One block's step. -/
theorem good_next (n : ℕ) (hn : n < 50) (h0 : n ≠ 0) (r : Fin 16) (tv : FVec Ideal S16x8 .f32) (ti : IVec S16x8 32)
    (hg : Good (sc (argX m c) (argK m c) r) r (20000 * n) tv ti) :
    Good (sc (argX m c) (argK m c) r) r (20000 * (n + 1))
      ((scanPay (F := Ideal) (BitVec.ofNat 32 n)).next (firstBit (BitVec.ofNat 32 n)) (scanX m c (pt50 n)) (scanK m c (pt50 n)) tv ti).1
      ((scanPay (F := Ideal) (BitVec.ofNat 32 n)).next (firstBit (BitVec.ofNat 32 n)) (scanX m c (pt50 n)) (scanK m c (pt50 n)) tv ti).2 := by
  have hs : (scanPay (F := Ideal) (BitVec.ofNat 32 n)).start (firstBit (BitVec.ofNat 32 n)) tv ti = (tv, ti) := by
    unfold ScanPay.start
    rw [if_neg (firstBit_pos n hn h0)]
  unfold ScanPay.next
  rw [hs]
  by_cases hgate : (scanPay (F := Ideal) (BitVec.ofNat 32 n)).gate (scanX m c (pt50 n)) (scanK m c (pt50 n)) (View.ld (tv, ti).1 lastCol) = 1#1
  · rw [if_pos hgate]
    exact merge_later _ (sc_bot _ _ r) r n hn _ _ (block_scores m c n hn r) tv ti hg
  · rw [if_neg hgate]
    refine skip_block _ (sc_bot _ _ r) r n hn _ _ (block_scores m c n hn r) tv ti hg fun p => ?_
    by_contra hc
    have hcol := lastCol_apply tv r
    exact hgate (gate_open _ _ _ _ ⟨r, p, by rw [hcol]; exact not_le.mp hc⟩)

/-- The first block's step. -/
theorem good_first (r : Fin 16) (tv : FVec Ideal S16x8 .f32) (ti : IVec S16x8 32) :
    Good (sc (argX m c) (argK m c) r) r 20000
      ((scanPay (F := Ideal) (BitVec.ofNat 32 0)).next (firstBit (BitVec.ofNat 32 0)) (scanX m c (pt50 0)) (scanK m c (pt50 0)) tv ti).1
      ((scanPay (F := Ideal) (BitVec.ofNat 32 0)).next (firstBit (BitVec.ofNat 32 0)) (scanX m c (pt50 0)) (scanK m c (pt50 0)) tv ti).2 := by
  have hs : (scanPay (F := Ideal) (BitVec.ofNat 32 0)).start (firstBit (BitVec.ofNat 32 0)) tv ti = (k0_pay3 (F := Ideal), k0_pay4) := by
    unfold ScanPay.start
    rw [if_pos (by decide)]
    rfl
  unfold ScanPay.next
  rw [hs]
  have hgate : (scanPay (F := Ideal) (BitVec.ofNat 32 0)).gate (scanX m c (pt50 0)) (scanK m c (pt50 0))
      (View.ld (k0_pay3 (F := Ideal), k0_pay4).1 lastCol) = 1#1 := by
    have hcol := lastCol_apply (k0_pay3 (F := Ideal)) r
    refine gate_open _ _ _ _ ⟨r, 0, ?_⟩
    rw [hcol, block_scores m c 0 (by decide) r 0]
    refine lt_of_eq_of_lt ?_ (sc_bot _ _ r _)
    exact neg_inf
  rw [if_pos hgate]
  exact merge_first _ (sc_bot _ _ r) r 0 (by decide) _ _ (block_scores m c 0 (by decide) r) rfl

/-- After block `n` the running lists hold every query's eight first places among the keys so far. -/
theorem good_runs (n : ℕ) (hn : n < 50) (r : Fin 16) :
    Good (sc (argX m c) (argK m c) r) r (20000 * (n + 1)) (runs m c n).1 (runs m c n).2 := by
  induction n with
  | zero =>
    unfold runs
    rw [scanWord_eq 0 hn]
    exact good_first m c r _ _
  | succ n ih =>
    unfold runs
    rw [scanWord_eq (n + 1) hn]
    exact good_next m c (n + 1) hn (Nat.succ_ne_zero n) r _ _ (ih (by omega))

/-- The table names keys. -/
theorem table_inRange : InRange (tblR m) := by
  intro i j
  rw [word_apply m ⟨0, by decide⟩ i j]
  obtain ⟨e, he, hti⟩ := good_runs m ⟨0, by decide⟩ 49 (by decide) (i 0)
  rw [(hti j).2]
  exact he.mem j.val j.isLt

end Cert.Proof.Pure

end
-- ==== Proof.Pure.Readout.lean ====
/-
  The readout, read at a place: what its windows hold, the key row each of the eight words names, and the row written as
  the eight key rows under their weights.
-/
module

public import proofs.«01_k».proof.Proof.Mem.KernelTop
public import proofs.«01_k».proof.Proof.Pure.Runs
public import Idealize.ShloMosaic.Lib.Pipeline.ValueKit

@[expose] public section

noncomputable section

namespace Cert.Proof.Pure

open Idealize.ShloMosaic Idealize.ShloMosaic.TcCoe
open Cert.KernelIdeal Cert.KernelIdeal.Gen Cert.Proof.Mem

section Blocks

variable {F : FTy → Type} [FloatOps F] [Named F]
variable (m : (ℓ : Loc nD τ sig) → Buf (Elt F) ℓ) (hT : InRange (tblR m)) (c : Dev nD)

/-- The readout finds the running values as the scan left them. -/
theorem VR_top : (VR m c main_v0_0 : Vec F S16x8 .f32) = (runs m c 49).1 := by
  rw [← outs1_0]
  unfold VR
  after_results_simp
  rfl

/-- The readout finds the keys as given. -/
theorem VR_keys : (VR m c main_arg1 : Vec F S1000000x64 .f32) = argK m c := by
  unfold VR argK
  after_results_simp
  rfl

theorem off2_eq (i : grid1.Coords) : k1_off2 i = ![(i 0).val, 0] := by
  revert i; decide +kernel

/-- Every point reads the running values whole. -/
theorem topB_apply (t : Fin (cfgR (tblR m) hT).N) (r : Fin 16) (k : Fin 8) :
    topB (tblR m) hT (VR m) c t (ix2 r k) = (runs m c 49).1 (ix2 r k) := by
  rw [← VR_top]
  unfold topB readB readA
  blk_simp
  refine congrArg (VR m c main_v0_0) (funext fun a => Fin.ext ?_)
  match a with
  | ⟨0, _⟩ =>
    blk_simp
    show 0 * 16 + r.val = r.val
    omega
  | ⟨1, _⟩ =>
    blk_simp
    show 0 * 8 + k.val = k.val
    omega

/-- The scores' row at a point, read at a place. -/
theorem topRow_apply (t : Fin (cfgR (tblR m) hT).N) (k : Fin 8) :
    View.ld (topB (tblR m) hT (VR m) c t) (scoreRect (grid1.coords t)) (ix2 0 k) = (runs m c 49).1 (ix2 (grid1.coords t 0) k) := by
  refine Eq.trans ?_ (topB_apply m hT c t (grid1.coords t 0) k)
  refine congrArg (topB (tblR m) hT (VR m) c t) (funext fun a => Fin.ext ?_)
  match a with
  | ⟨0, _⟩ =>
    show k1_off2 (grid1.coords t) 0 + 1 * 0 = (grid1.coords t 0).val
    rw [off2_eq]
    rfl
  | ⟨1, _⟩ =>
    show k1_off2 (grid1.coords t) 1 + 1 * k.val = k.val
    rw [off2_eq]
    show 0 + 1 * k.val = k.val
    omega

set_option maxHeartbeats 1600000 in
/-- Rank `j`'s block at a point: the eight keys its word falls among. -/
theorem key_apply (t : Fin (cfgR (tblR m) hT).N) (j p : Fin 8) (l : Fin 64) (n : Fin 1000000)
    (hn : n.val = 8 * ((word (F := F) (tblR m) (grid1.coords t) j).toNat / 8) + p.val) :
    keyB (tblR m) hT (VR m) c t j (ix2 p l) = argK m c (ix2 n l) := by
  rw [← VR_keys]
  have h8 := blockWord_eq (hT (grid1.coords t) j)
  obtain rfl | rfl | rfl | rfl | rfl | rfl | rfl | rfl : j = 0 ∨ j = 1 ∨ j = 2 ∨ j = 3 ∨ j = 4 ∨ j = 5 ∨ j = 6 ∨ j = 7 := by
    omega
  all_goals
    unfold keyB readB readA
    blk_simp
    refine congrArg (VR m c main_arg1) (funext fun a => Fin.ext ?_)
    match a with
    | ⟨0, _⟩ =>
      blk_simp
      refine Eq.trans (congrArg (fun b => b * 8 + p.val) h8) ?_
      rw [hn, Nat.mul_comm]
    | ⟨1, _⟩ =>
      blk_simp
      show 0 * 64 + l.val = l.val
      omega

/-- The row of a block that word `v` names, read at a place. -/
theorem row_apply (X : Vec F S8x64 .f32) (v : BitVec 32) (hv : v.toNat < 1000000) (h : k1_chk1 v) (l : Fin 64) :
    View.ld X (rowRect v h) (ix2 0 l) = X (ix2 ⟨v.toNat % 8, Nat.mod_lt _ (by decide)⟩ l) := by
  refine congrArg X (funext fun a => Fin.ext ?_)
  match a with
  | ⟨0, _⟩ =>
    show k1_off3 v 0 + 1 * 0 = v.toNat % 8
    rw [off3_eq hv]
    rfl
  | ⟨1, _⟩ =>
    show k1_off3 v 1 + 1 * l.val = l.val
    rw [off3_eq hv]
    show 0 + 1 * l.val = l.val
    omega

/-- The key row rank `j`'s word names is the key of that number. -/
theorem keyRow_apply (t : Fin (cfgR (tblR m) hT).N) (j : Fin 8) (h : k1_chk1 (word (F := F) (tblR m) (grid1.coords t) j)) (l : Fin 64)
    (n : Fin 1000000) (hn : n.val = (word (F := F) (tblR m) (grid1.coords t) j).toNat) :
    View.ld (keyB (tblR m) hT (VR m) c t j) (rowRect (word (F := F) (tblR m) (grid1.coords t) j) h) (ix2 0 l)
      = argK m c (ix2 n l) := by
  refine (row_apply _ _ (hT _ _) h l).trans (key_apply m hT c t j _ l n ?_)
  rw [hn]
  exact (Nat.div_add_mod _ 8).symm

end Blocks

/-- The row mixed, read at a place. -/
theorem mix_apply (tv : Vec Ideal S1x8 .f32) (r : Fin 8 → Vec Ideal S1x64 .f32) (l : Fin 64) :
    mix (F := Ideal) tv r (ix2 0 l) = ∑ j : Fin 8, k1_pay2 (F := Ideal) tv (ix2 0 j) * r j (ix2 0 l) := by
  rw [Fin.sum_univ_eight]
  pointwise [mix, k1_pay1, k1_pay3, k1_pay4, k1_pay5, k1_pay6]

end Cert.Proof.Pure

end
-- ==== Proof.Pure.Soft.lean ====
/-
  The softmax weights both ways: the kernel's, which takes the differences from the greatest score and multiplies them by
  the sharpness, and the reference's, which divides the scores by the temperature first.
-/
module

public import proofs.«01_k».proof.Proof.Pure.Rounds
public import Idealize.ShloMosaic.Lib.Pointwise

@[expose] public section

noncomputable section

namespace Cert.Proof.Pure

open Idealize.ShloMosaic
open Cert.KernelIdeal Cert.KernelIdeal.Gen

/-- The greatest over pairs whose first part is one value is the greatest over the second. -/
theorem fold_pair (f : Fin 8 → EReal) (b : EReal) :
    Finset.fold max b (fun x : Fin 1 × Fin 8 => f x.2) Finset.univ = Finset.fold max b f Finset.univ := by
  refine eq_of_forall_ge_iff fun c => ?_
  simp [Finset.fold_max_le]

/-- The kernel's weight of a rank. -/
def heavyK (t : Fin 8 → EReal) (k : Fin 8) : EReal :=
  Ideal.div (Ideal.exp ((t k - Finset.fold max (Ideal.ofBits FTy.f32 0xFF800000#32) t Finset.univ) * ((134217728 / 13421773 : ℝ) : EReal)))
    (∑ x : Fin 8, Ideal.exp ((t x - Finset.fold max (Ideal.ofBits FTy.f32 0xFF800000#32) t Finset.univ) * ((134217728 / 13421773 : ℝ) : EReal)))

/-- A score over the temperature. -/
def hot (t : Fin 8 → EReal) (k : Fin 8) : EReal := Ideal.div (t k) (Ideal.ofBits FTy.f32 0x3DCCCCCD#32)

/-- The reference's exponential of a rank. -/
def exR (t : Fin 8 → EReal) (k : Fin 8) : EReal :=
  Ideal.exp (hot t k - max (Ideal.ofBits FTy.f32 0xFF800000#32) (Finset.fold max (Ideal.ofBits FTy.f32 0xFF800000#32) (hot t) Finset.univ))

/-- The reference's weight of a rank. -/
def heavyR (t : Fin 8 → EReal) (k : Fin 8) : EReal := Ideal.div (exR t k) (∑ x : Fin 8, exR t x)

/-- The temperature's word. -/
theorem temp_eq : Ideal.ofBits FTy.f32 0x3DCCCCCD#32 = ((13421773 / 134217728 : ℝ) : EReal) := by
  simp [Ideal.ofBits, Ideal.ieee, -EReal.coe_mul]; norm_num

theorem hot_coe (y : Fin 8 → ℝ) (k : Fin 8) : hot (fun k => (y k : EReal)) k = ((y k * (134217728 / 13421773) : ℝ) : EReal) := by
  unfold hot
  rw [temp_eq, Ideal.div_coe (by norm_num), ← EReal.coe_mul]
  norm_num

/-- Of finite scores the two weights are one. -/
theorem heavy_eq (y : Fin 8 → ℝ) (k : Fin 8) : heavyK (fun k => (y k : EReal)) k = heavyR (fun k => (y k : EReal)) k := by
  have key : ∀ x : Fin 8, Ideal.exp (((y x : EReal) - Finset.fold max (Ideal.ofBits FTy.f32 0xFF800000#32) (fun k => (y k : EReal)) Finset.univ) * ((134217728 / 13421773 : ℝ) : EReal))
      = exR (fun k => (y k : EReal)) x := by
    intro x
    unfold exR
    obtain ⟨h1, p, hp⟩ := foldMax (by decide) (fun k : Fin 8 => (y k : EReal))
    obtain ⟨g1, q, hq⟩ := foldMax (by decide) (hot (fun k : Fin 8 => (y k : EReal)))
    have a : y q ≤ y p := by
      have := h1 q
      rw [← hp] at this
      exact EReal.coe_le_coe_iff.mp this
    have b : y p ≤ y q := by
      have := g1 p
      rw [← hq, hot_coe, hot_coe, EReal.coe_le_coe_iff] at this
      linarith
    have e : y p = y q := le_antisymm b a
    rw [← hp, ← hq, neg_inf, max_eq_right bot_le, hot_coe, hot_coe, ← EReal.coe_sub, ← EReal.coe_sub, ← EReal.coe_mul, e, sub_mul]
  unfold heavyK heavyR
  simp only [key]

/-- The sharpness, named. -/
theorem sharp_eq : Named.named (F := Ideal) (φ := .f32) κ "sharpness" 1092616192#32 = ((134217728 / 13421773 : ℝ) : EReal) := by
  rfl

/-- The kernel's weights, read at a place. -/
theorem pay2_apply (tv : Vec Ideal S1x8 .f32) (k : Fin 8) : k1_pay2 (F := Ideal) tv (ix2 0 k) = heavyK (fun k => tv (ix2 0 k)) k := by
  unfold heavyK
  pointwise [k1_pay2]
  simp only [sharp_eq, fold_pair (fun k => tv (ix2 0 k)), Fin.sum_univ_one, Finset.univ_unique, Finset.sum_singleton]

end Cert.Proof.Pure

end
-- ==== Proof.Ref.Stages.lean ====
/-
  The reference's operations, stage by stage: the scores, the softmax weights, the keys taken, their weighted sum.
-/
module

public import proofs.«01_k».proof.Proof.Gen.ReferenceIdeal.Run
public import Idealize.ShloMosaic.Lib.Pointwise

@[expose] public section

noncomputable section

namespace Cert.Proof.Ref

open Idealize.ShloMosaic
open Cert.ReferenceIdeal Cert.ReferenceIdeal.Gen

variable {F : FTy → Type} [FloatOps F]

/-- The queries, each group of four over its length. -/
def unitX (X : FVec F S16x64 .f32) : FVec F S16x64 .f32 :=
  shapeCast S16x64 (Host.divf (shapeCast S16x16x4 X shapeCasts_S16x64_S16x16x4)
    (broadcastInDim S16x16x4 ![0, 1, 2] bcast_S16x16x1_S16x16x4_0_1_2 (Host.sqrt (addf
      (broadcastInDim S16x16x1 ![0, 1] bcast_S16x16_S16x16x1_0_1 (Host.reduceAdd
        (mulf (shapeCast S16x16x4 X shapeCasts_S16x64_S16x16x4) (shapeCast S16x16x4 X shapeCasts_S16x64_S16x16x4))
        (constant S_ .f32 0x00000000#32) reducesTo_S16x16x4_S16x16_d2 h_S_))
      (broadcastInDim S16x16x1 ![] bcast_S_S16x16x1 (constant S_ .f32 0x322BCC77#32)))))) shapeCasts_S16x16x4_S16x64

/-- The keys, each group of four over its length. -/
def unitK (K : FVec F S1000000x64 .f32) : FVec F S1000000x64 .f32 :=
  shapeCast S1000000x64 (Host.divf (shapeCast S1000000x16x4 K shapeCasts_S1000000x64_S1000000x16x4)
    (broadcastInDim S1000000x16x4 ![0, 1, 2] bcast_S1000000x16x1_S1000000x16x4_0_1_2 (Host.sqrt (addf
      (broadcastInDim S1000000x16x1 ![0, 1] bcast_S1000000x16_S1000000x16x1_0_1 (Host.reduceAdd
        (mulf (shapeCast S1000000x16x4 K shapeCasts_S1000000x64_S1000000x16x4) (shapeCast S1000000x16x4 K shapeCasts_S1000000x64_S1000000x16x4))
        (constant S_ .f32 0x00000000#32) reducesTo_S1000000x16x4_S1000000x16_d2 h_S_))
      (broadcastInDim S1000000x16x1 ![] bcast_S_S1000000x16x1 (constant S_ .f32 0x322BCC77#32)))))) shapeCasts_S1000000x16x4_S1000000x64

/-- The scores. -/
def scores (X : FVec F S16x64 .f32) (K : FVec F S1000000x64 .f32) : FVec F S16x1000000 .f32 :=
  mulf (broadcastInDim S16x1000000 ![] bcast_S_S16x1000000 (constant S_ .f32 0x3F000000#32))
    (Host.dotGeneral dot_S16x64_S64x1000000_S16x1000000_1_0_0_1_n_n none (unitX X)
      (transpose S64x1000000 [1, 0] (unitK K) transposes_S1000000x64_S64x1000000_1_0))

/-- The best eight scores of every query. -/
def topV (s : FVec F S16x1000000 .f32) : FVec F S16x8 .f32 := (Host.topK S16x8 1 (FloatOps.cmpfTotal .gt) s sliceFits_S16x1000000_S16x8).1

/-- Their indices. -/
def topI (s : FVec F S16x1000000 .f32) : IVec S16x8 32 := (Host.topK S16x8 1 (FloatOps.cmpfTotal .gt) s sliceFits_S16x1000000_S16x8).2

/-- The scores over the temperature. -/
def heat (tv : FVec F S16x8 .f32) : FVec F S16x8 .f32 :=
  Host.divf tv (broadcastInDim S16x8 ![] bcast_S_S16x8 (constant S_ .f32 0x3DCCCCCD#32))

/-- The exponentials of their differences from the greatest. -/
def expo (h : FVec F S16x8 .f32) : FVec F S16x8 .f32 :=
  Host.exp (subf h (broadcastInDim S16x8 ![0, 1] bcast_S16x1_S16x8_0_1 (broadcastInDim S16x1 ![0] bcast_S16_S16x1_0
    (maximumf (broadcastInDim S16 ![] bcast_S_S16 (constant S_ .f32 0xFF800000#32))
      (Host.reduce FloatOps.maximumf h (constant S_ .f32 0xFF800000#32) reducesTo_S16x8_S16_d1 h_S_)))))

/-- The exponentials over their sum. -/
def weights (e : FVec F S16x8 .f32) : FVec F S16x8 .f32 :=
  Host.divf e (broadcastInDim S16x8 ![0, 1] bcast_S16x1_S16x8_0_1 (broadcastInDim S16x1 ![0] bcast_S16_S16x1_0
    (Host.reduceAdd e (constant S_ .f32 0x00000000#32) reducesTo_S16x8_S16_d1 h_S_)))

/-- The indices with those below zero counted from the end. -/
def wrapped (ti : IVec S16x8 32) : IVec S16x8x1 32 :=
  broadcastInDim S16x8x1 ![0, 1] bcast_S16x8_S16x8x1_0_1 (select (cmpi .slt ti (broadcastInDim S16x8 ![] bcast_S_S16x8 (constantI S_ 32 0#32)))
    (addi ti (broadcastInDim S16x8 ![] bcast_S_S16x8 (constantI S_ 32 1000000#32))) ti)

/-- Which of them are in range. -/
def inside (i : IVec S16x8x1 32) : IVec S16x8 1 :=
  Host.reduce IntOp.andi (andi (cmpi .sge i (broadcastInDim S16x8x1 ![] bcast_S_S16x8x1 (constantI S_ 32 0#32)))
    (cmpi .sle i (broadcastInDim S16x8x1 ![0, 1, 2] bcast_S1x1x1_S16x8x1_0_1_2 (broadcastInDim S1x1x1 ![2] bcast_S1_S1x1x1_2 (constantI S1 32 999999#32)))))
    (constantI S_ 1 1#1) reducesTo_S16x8x1_S16x8_d2 h_S_

/-- The keys taken. -/
def taken (K : FVec F S1000000x64 .f32) (i : IVec S16x8x1 32) : FVec F S16x8x64 .f32 :=
  select (broadcastInDim S16x8x64 ![0, 1] bcast_S16x8_S16x8x64_0_1 (inside i))
    (Host.gather gather_S1000000x64_S16x8x1_S16x8x64_2_0_n_n_0_2_164 K i) (broadcastInDim S16x8x64 ![] bcast_S_S16x8x64 (constant S_ .f32 0x7FC00000#32))

/-- The weighted sum. -/
def total (w : FVec F S16x8 .f32) (g : FVec F S16x8x64 .f32) : FVec F S16x64 .f32 :=
  Host.reduceAdd (mulf (broadcastInDim S16x8x64 ![0, 1, 2] bcast_S16x8x1_S16x8x64_0_1_2 (broadcastInDim S16x8x1 ![0, 1] bcast_S16x8_S16x8x1_0_1 w)) g)
    (constant S_ .f32 0x00000000#32) reducesTo_S16x8x64_S16x64_d1 h_S_

/-- The reference's result. -/
def refOut (X : FVec F S16x64 .f32) (K : FVec F S1000000x64 .f32) : FVec F S16x64 .f32 :=
  total (weights (expo (heat (topV (scores X K))))) (taken K (wrapped (topI (scores X K))))

set_option maxRecDepth 8192 in
/-- The reference's composed term is the stages composed. -/
theorem res_eq (m : (ℓ : Loc nD τ sig) → Buf (Elt F) ℓ) (c : Dev nD) :
    Cert.ReferenceIdeal.Value.res_main_v41 m c = refOut (m ((c.tc : Thread nD τ).loc main_arg0)) (m ((c.tc : Thread nD τ).loc main_arg1)) := by
  unfold Cert.ReferenceIdeal.Value.res_main_v41 refOut total weights expo heat topV topI taken inside wrapped scores unitX unitK
  rfl

end Cert.Proof.Ref

end
-- ==== Proof.Ref.Reads.lean ====
/-
  The reference's stages over the extended reals, read at a place.
-/
module

public import proofs.«01_k».proof.Proof.Ref.Stages
public import proofs.«01_k».proof.Proof.Pure.Score

@[expose] public section

noncomputable section

namespace Cert.Proof.Ref

open Idealize.ShloMosaic
open Cert.ReferenceIdeal Cert.ReferenceIdeal.Gen Cert.Proof.Pure

theorem mate_eq (l : Fin 64) (j : Fin 4) (h : l.val / 4 * 4 + j.val < 64) : (⟨l.val / 4 * 4 + j.val, h⟩ : Fin 64) = mate l j :=
  Fin.ext (by show l.val / 4 * 4 + j.val = 4 * (l.val / 4) + j.val; omega)

/-- A query's normalised entry. -/
theorem unitX_apply (X : FVec Ideal S16x64 .f32) (r : Fin 16) (l : Fin 64) : unitX (F := Ideal) X (ix2 r l) = nrm (fun l => X (ix2 r l)) l := by
  pointwise [unitX]
  simp only [mate_eq]
  rfl

/-- A key's normalised entry. -/
theorem unitK_apply (K : FVec Ideal S1000000x64 .f32) (n : Fin 1000000) (l : Fin 64) : unitK (F := Ideal) K (ix2 n l) = nrm (fun l => K (ix2 n l)) l := by
  pointwise [unitK]
  simp only [mate_eq]
  rfl

/-- A score. -/
theorem scores_apply (X : FVec Ideal S16x64 .f32) (K : FVec Ideal S1000000x64 .f32) (r : Fin 16) (n : Fin 1000000) :
    scores (F := Ideal) X K (ix2 r n) = score (fun l => X (ix2 r l)) (fun l => K (ix2 n l)) := by
  pointwise [scores]
  simp only [unitX_apply, unitK_apply]
  rfl

/-- A score over the temperature. -/
theorem heat_apply (tv : FVec Ideal S16x8 .f32) (r : Fin 16) (k : Fin 8) : heat (F := Ideal) tv (ix2 r k) = Ideal.div (tv (ix2 r k)) (Ideal.ofBits FTy.f32 0x3DCCCCCD#32) := by
  pointwise [heat]

/-- An exponential. -/
theorem expo_apply (h : FVec Ideal S16x8 .f32) (r : Fin 16) (k : Fin 8) : expo (F := Ideal) h (ix2 r k)
    = Ideal.exp (h (ix2 r k) - max (Ideal.ofBits FTy.f32 0xFF800000#32) (Finset.fold max (Ideal.ofBits FTy.f32 0xFF800000#32) (fun x : Fin 8 => h (ix2 r x)) Finset.univ)) := by
  pointwise [expo]

/-- A weight. -/
theorem weights_apply (e : FVec Ideal S16x8 .f32) (r : Fin 16) (k : Fin 8) : weights (F := Ideal) e (ix2 r k) = Ideal.div (e (ix2 r k)) (∑ x : Fin 8, e (ix2 r x)) := by
  pointwise [weights]

/-- A sum. -/
theorem total_apply (w : FVec Ideal S16x8 .f32) (g : FVec Ideal S16x8x64 .f32) (r : Fin 16) (l : Fin 64) :
    total (F := Ideal) w g (ix2 r l) = ∑ x : Fin 8, w (ix2 r x) * g (ix3 r x l) := by
  pointwise [total]

end Cert.Proof.Ref

end
-- ==== Proof.Ref.Take.lean ====
/-
  The reference's eight best scores and the keys it takes, over the extended reals, read at a place.
-/
module

public import proofs.«01_k».proof.Proof.Ref.Stages

@[expose] public section

noncomputable section

namespace Cert.Proof.Ref

open Idealize.ShloMosaic
open Cert.ReferenceIdeal Cert.ReferenceIdeal.Gen

/-! ## The eight best -/

section Sorting

variable {N M T : ℕ} {α β : Type} (x : (⟨2, ![N, M]⟩ : Shape).Idx → α) (r : Fin N)

theorem along_eq (k p : Fin M) : Shape.Idx.along (s := ⟨2, ![N, M]⟩) (ix2 r k) (⟨1, Nat.one_lt_two⟩ : Fin 2) p = ix2 r p := by
  funext a
  match a with
  | ⟨0, _⟩ => rfl
  | ⟨1, _⟩ => rfl

/-- Two arrays sorted together along the second axis, read at a place. -/
theorem sort2_apply (cmp : α × β → α × β → BitVec 1) (y : (⟨2, ![N, M]⟩ : Shape).Idx → β) (k : Fin M) :
    (Host.sort2 ⟨2, ![N, M]⟩ 1 cmp x y).1 (ix2 r k)
        = x (ix2 r (sortedFrom (fun a b : Fin M => cmp (x (ix2 r a), y (ix2 r a)) (x (ix2 r b), y (ix2 r b)) == 1#1) k))
      ∧ (Host.sort2 ⟨2, ![N, M]⟩ 1 cmp x y).2 (ix2 r k)
        = y (ix2 r (sortedFrom (fun a b : Fin M => cmp (x (ix2 r a), y (ix2 r a)) (x (ix2 r b), y (ix2 r b)) == 1#1) k)) := by
  have hB : (fun a b : Fin M => cmp (x (Shape.Idx.along (s := ⟨2, ![N, M]⟩) (ix2 r k) (⟨1, Nat.one_lt_two⟩ : Fin 2) a), y (Shape.Idx.along (s := ⟨2, ![N, M]⟩) (ix2 r k) (⟨1, Nat.one_lt_two⟩ : Fin 2) a))
      (x (Shape.Idx.along (s := ⟨2, ![N, M]⟩) (ix2 r k) (⟨1, Nat.one_lt_two⟩ : Fin 2) b), y (Shape.Idx.along (s := ⟨2, ![N, M]⟩) (ix2 r k) (⟨1, Nat.one_lt_two⟩ : Fin 2) b)) == 1#1)
      = fun a b : Fin M => cmp (x (ix2 r a), y (ix2 r a)) (x (ix2 r b), y (ix2 r b)) == 1#1 := by
    funext a b
    rw [along_eq r k a, along_eq r k b]
  rw [← hB]
  unfold Host.sort2
  rw [dif_pos (show 1 < (⟨2, ![N, M]⟩ : Shape).rank from Nat.one_lt_two)]
  constructor
  · exact congrArg x (along_eq r k _)
  · exact congrArg y (along_eq r k _)

theorem slice_apply (h : (⟨2, ![N, M]⟩ : Shape).Slices (fun _ => 0) ⟨2, ![N, T]⟩) (k : Fin T) (k' : Fin M) (hk : k'.val = k.val) :
    extractStridedSlice ⟨2, ![N, T]⟩ (fun _ => 0) x h (ix2 r k) = x (ix2 r k') := by
  unfold extractStridedSlice
  refine congrArg x (funext fun a => Fin.ext ?_)
  match a with
  | ⟨0, _⟩ => exact Nat.zero_add _
  | ⟨1, _⟩ => exact (Nat.zero_add _).trans hk.symm

/-- The best of every row, read at a place. -/
theorem topK_apply (gt : α → α → BitVec 1) (h : (⟨2, ![N, M]⟩ : Shape).Slices (fun _ => 0) ⟨2, ![N, T]⟩) (k : Fin T) (k' : Fin M) (hk : k'.val = k.val) :
    (Host.topK ⟨2, ![N, T]⟩ 1 gt x h).1 (ix2 r k) = x (ix2 r (sortedFrom (fun a b : Fin M => gt (x (ix2 r a)) (x (ix2 r b)) == 1#1) k'))
      ∧ (Host.topK ⟨2, ![N, T]⟩ 1 gt x h).2 (ix2 r k) = BitVec.ofNat 32 (sortedFrom (fun a b : Fin M => gt (x (ix2 r a)) (x (ix2 r b)) == 1#1) k').val := by
  unfold Host.topK
  have hs := sort2_apply x r (fun l r : α × BitVec 32 => gt l.1 r.1)
    (fun i => if hd : 1 < (⟨2, ![N, M]⟩ : Shape).rank then iotaInDim ⟨2, ![N, M]⟩ 32 ⟨1, hd⟩ i else 0#32) k'
  refine ⟨(slice_apply _ r h k k' hk).trans hs.1, (slice_apply _ r h k k' hk).trans (hs.2.trans ?_)⟩
  rw [dif_pos (show 1 < (⟨2, ![N, M]⟩ : Shape).rank from Nat.one_lt_two)]
  rfl

end Sorting

/-- Which of two keys a query's scores put first. -/
def before (s : FVec Ideal S16x1000000 .f32) (r : Fin 16) (a b : Fin 1000000) : Bool := decide (s (ix2 r b) < s (ix2 r a))

theorem cmp_before (s : FVec Ideal S16x1000000 .f32) (r : Fin 16) :
    (fun a b : Fin 1000000 => (FloatOps.cmpfTotal (F := Ideal) .gt (s (ix2 r a)) (s (ix2 r b)) == 1#1)) = before s r := by
  funext a b
  have : FloatOps.cmpfTotal (F := Ideal) (φ := .f32) .gt (s (ix2 r a)) (s (ix2 r b)) = BitVec.ofBool (decide (s (ix2 r b) < s (ix2 r a))) := rfl
  rw [this]
  unfold before
  by_cases h : s (ix2 r b) < s (ix2 r a) <;> simp [h]

/-- The best scores. -/
theorem topV_apply (s : FVec Ideal S16x1000000 .f32) (r : Fin 16) (k : Fin 8) :
    topV (F := Ideal) s (ix2 r k) = s (ix2 r (sortedFrom (before s r) ⟨k.val, by omega⟩)) := by
  rw [← cmp_before]
  exact (topK_apply s r (FloatOps.cmpfTotal (F := Ideal) .gt) sliceFits_S16x1000000_S16x8 k ⟨k.val, by omega⟩ rfl).1

/-- Their indices. -/
theorem topI_apply (s : FVec Ideal S16x1000000 .f32) (r : Fin 16) (k : Fin 8) :
    topI (F := Ideal) s (ix2 r k) = BitVec.ofNat 32 (sortedFrom (before s r) ⟨k.val, by omega⟩).val := by
  rw [← cmp_before]
  exact (topK_apply s r (FloatOps.cmpfTotal (F := Ideal) .gt) sliceFits_S16x1000000_S16x8 k ⟨k.val, by omega⟩ rfl).2

/-! ## The keys taken -/

/-- The gather, read at a place whose index is in range. -/
theorem gather_row (K : FVec Ideal S1000000x64 .f32) (i : IVec S16x8x1 32) (r : Fin 16) (k : Fin 8) (l : Fin 64) :
    Host.gather gather_S1000000x64_S16x8x1_S16x8x64_2_0_n_n_0_2_164 K i (ix3 r k l)
      = K (ix2 ⟨min (i (ix3 r k 0)).toInt.toNat 999999, by omega⟩ l) := by
  unfold Host.gather
  congr 1
  funext a
  refine Fin.ext ?_
  show (gather_S1000000x64_S16x8x1_S16x8x64_2_0_n_n_0_2_164).start (ix3 r k l) i a + (gather_S1000000x64_S16x8x1_S16x8x64_2_0_n_n_0_2_164).batchCoord (ix3 r k l) a
      + (gather_S1000000x64_S16x8x1_S16x8x64_2_0_n_n_0_2_164).offCoord (ix3 r k l) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    split
    · rename_i hm
      refine congrArg (fun z => min (i z).toInt.toNat 999999) ?_
      funext b; refine Fin.ext ?_
      match b with
      | ⟨0, _⟩ => rfl
      | ⟨1, _⟩ => rfl
      | ⟨2, _⟩ => rfl
    · rename_i hm
      exact absurd (List.mem_singleton.mpr rfl) hm
  | ⟨1, _⟩ =>
    unfold GatherDims.start
    split
    · rename_i hm
      exact absurd (List.mem_singleton.mp hm) (fun h => absurd (congrArg Fin.val h) Nat.one_ne_zero)
    · simp only [Nat.zero_add]
      rfl

theorem toInt_small {v : BitVec 32} (h : v.toNat < 1000000) : v.toInt = v.toNat := BitVec.toInt_eq_toNat_of_lt (by omega)

/-- An index in range is not wrapped. -/
theorem wrapped_apply (ti : IVec S16x8 32) (r : Fin 16) (k : Fin 8) (o : Fin 1) (h : (ti (ix2 r k)).toNat < 1000000) : wrapped ti (ix3 r k o) = ti (ix2 r k) := by
  have e : wrapped ti (ix3 r k o) = Scalar.select (IntOp.cmpi CmpIPredicate.slt (ti (ix2 r k)) 0#32) (IntOp.addi (ti (ix2 r k)) 1000000#32) (ti (ix2 r k)) := by
    pointwise [wrapped]
  rw [e]
  have : (ti (ix2 r k)).slt 0#32 = false := by
    rw [BitVec.slt_zero_eq_msb, BitVec.msb_eq_decide]
    simp only [decide_eq_false_iff_not]
    omega
  simp [IntOp.cmpi, this, Scalar.select]

/-- An index in range is inside. -/
theorem inside_apply (i : IVec S16x8x1 32) (r : Fin 16) (k : Fin 8) (h : (i (ix3 r k 0)).toNat < 1000000) : inside i (ix2 r k) = 1#1 := by
  have e : inside i (ix2 r k) = Finset.fold IntOp.andi (1#1) (fun x : Fin 1 =>
        IntOp.andi (IntOp.cmpi CmpIPredicate.sge (i (ix3 r k x)) 0#32) (IntOp.cmpi CmpIPredicate.sle (i (ix3 r k x)) 999999#32)) Finset.univ := by
    pointwise [inside]
  rw [e]
  have h1 : IntOp.cmpi CmpIPredicate.sge (i (ix3 r k 0)) 0#32 = 1#1 := by
    have : (0#32 : BitVec 32).sle (i (ix3 r k 0)) = true := by
      rw [BitVec.sle_eq_decide, toInt_small h]
      simp
    simp [IntOp.cmpi, this]
  have h2 : IntOp.cmpi CmpIPredicate.sle (i (ix3 r k 0)) 999999#32 = 1#1 := by
    have : (i (ix3 r k 0)).sle 999999#32 = true := by
      rw [BitVec.sle_eq_decide, toInt_small h, toInt_small (v := 999999#32) (by decide)]
      have : (999999#32 : BitVec 32).toNat = 999999 := rfl
      rw [this]
      simp only [decide_eq_true_eq]
      omega
    simp [IntOp.cmpi, this]
  rw [show (Finset.univ : Finset (Fin 1)) = {0} from rfl, Finset.fold_singleton, h1, h2]
  rfl

/-- A key taken, at an index in range. -/
theorem taken_apply (K : FVec Ideal S1000000x64 .f32) (i : IVec S16x8x1 32) (r : Fin 16) (k : Fin 8) (l : Fin 64) (n : Fin 1000000)
    (h : (i (ix3 r k 0)).toNat = n.val) : taken (F := Ideal) K i (ix3 r k l) = K (ix2 n l) := by
  have hlt : (i (ix3 r k 0)).toNat < 1000000 := by omega
  have e : taken (F := Ideal) K i (ix3 r k l) = Scalar.select (inside i (ix2 r k)) (Host.gather gather_S1000000x64_S16x8x1_S16x8x64_2_0_n_n_0_2_164 K i (ix3 r k l))
      (Ideal.ofBits FTy.f32 2143289344#32) := by
    pointwise [taken]
  rw [e, inside_apply i r k hlt, gather_row]
  have hn : (⟨min (i (ix3 r k 0)).toInt.toNat 999999, by omega⟩ : Fin 1000000) = n := by
    apply Fin.ext
    show min (i (ix3 r k 0)).toInt.toNat 999999 = n.val
    rw [toInt_small hlt]
    omega
  rw [hn]
  rfl

end Cert.Proof.Ref

end
-- ==== Proof.Pure.Final.lean ====
/-
  The kernel's result is the reference's: both pick the same eight keys of every query, with the same scores, weigh them
  alike and sum them in one order.
-/
module

public import proofs.«01_k».proof.Proof.Pure.Readout
public import proofs.«01_k».proof.Proof.Pure.Soft
public import proofs.«01_k».proof.Proof.Ref.Reads
public import proofs.«01_k».proof.Proof.Ref.Take

@[expose] public section

noncomputable section

namespace Cert.Proof.Pure

open Idealize.ShloMosaic Idealize.ShloMosaic.TcCoe
open Cert.KernelIdeal Cert.KernelIdeal.Gen Cert.Proof.Mem

/-! ## The reference at a place -/

section Reference

open Cert.Proof.Ref

variable (X : FVec Ideal S16x64 .f32) (K : FVec Ideal S1000000x64 .f32) (r : Fin 16)

/-- The key the reference ranks `k` for query `r`. -/
def place (k : Fin 8) : Fin 1000000 := sortedFrom (before (scores (F := Ideal) X K) r) ⟨k.val, by omega⟩

/-- Its score. -/
def best (k : Fin 8) : EReal := score (fun l => X (ix2 r l)) (fun l => K (ix2 (place X K r k) l))

theorem topV_place (k : Fin 8) : topV (F := Ideal) (scores (F := Ideal) X K) (ix2 r k) = best X K r k :=
  (topV_apply _ r k).trans (scores_apply X K r _)

theorem weights_place (k : Fin 8) :
    weights (F := Ideal) (expo (F := Ideal) (heat (F := Ideal) (topV (F := Ideal) (scores (F := Ideal) X K)))) (ix2 r k) = heavyR (best X K r) k := by
  have hh : ∀ k : Fin 8, heat (F := Ideal) (topV (F := Ideal) (scores (F := Ideal) X K)) (ix2 r k) = hot (best X K r) k := fun k => by
    rw [heat_apply, topV_place]; rfl
  have he : ∀ k : Fin 8, expo (F := Ideal) (heat (F := Ideal) (topV (F := Ideal) (scores (F := Ideal) X K))) (ix2 r k) = exR (best X K r) k := fun k => by
    rw [expo_apply]
    simp only [hh]
    rfl
  rw [weights_apply]
  simp only [he]
  rfl

theorem taken_place (k : Fin 8) (l : Fin 64) :
    taken (F := Ideal) K (wrapped (topI (F := Ideal) (scores (F := Ideal) X K))) (ix3 r k l) = K (ix2 (place X K r k) l) := by
  have hI : (topI (F := Ideal) (scores (F := Ideal) X K) (ix2 r k)).toNat = (place X K r k).val := by
    rw [topI_apply, BitVec.toNat_ofNat]
    exact Nat.mod_eq_of_lt (lt_trans (place X K r k).isLt (by norm_num))
  refine taken_apply K _ r k l _ ?_
  rw [wrapped_apply _ r k 0 (hI ▸ (place X K r k).isLt)]
  exact hI

/-- The reference's result, read at a place. -/
theorem refOut_apply (l : Fin 64) : refOut (F := Ideal) X K (ix2 r l) = ∑ k : Fin 8, heavyR (best X K r) k * K (ix2 (place X K r k) l) := by
  unfold refOut
  rw [total_apply]
  simp only [weights_place, taken_place]

/-- The reference's eight keys are the first eight. -/
theorem picks_place : Picks (sc X K r) {n | n < 1000000} (fun k => if h : k < 1000000 then (sortedFrom (before (scores (F := Ideal) X K) r) ⟨k, h⟩).val else 0) := by
  refine picks_sorted (by norm_num) (sc X K r) (before (scores (F := Ideal) X K) r) (fun a b => ?_) _ (fun k hk => dif_pos (by omega))
  unfold before sc
  rw [dif_pos a.isLt, dif_pos b.isLt, scores_apply, scores_apply]

/-- The eight scores are finite. -/
theorem best_real : ∃ y : Fin 8 → ℝ, best X K r = fun k => (y k : EReal) := by
  choose y hy using fun k : Fin 8 => score_real (fun l => X (ix2 r l)) (fun l => K (ix2 (place X K r k) l))
  exact ⟨y, funext hy⟩

end Reference

/-! ## The kernel at a place -/

variable (m : (ℓ : Loc nD τ sig) → Buf (Elt Ideal) ℓ) (c : Dev nD)

theorem sc_of (X : FVec Ideal S16x64 .f32) (K : FVec Ideal S1000000x64 .f32) (r : Fin 16) (n : Fin 1000000) :
    sc X K r n.val = score (fun l => X (ix2 r l)) (fun l => K (ix2 n l)) := dif_pos n.isLt

/-- The scan's running lists at the end are the reference's eight. -/
theorem runs_place (r : Fin 16) (k : Fin 8) :
    (runs m c 49).1 (ix2 r k) = best (argX m c) (argK m c) r k ∧ ((runs m c 49).2 (ix2 r k)).toNat = (place (argX m c) (argK m c) r k).val := by
  obtain ⟨i, hi, h⟩ := good_runs m c 49 (by norm_num) r
  have hu := Picks.unique hi (picks_place (argX m c) (argK m c) r) k.val k.isLt
  have hk : k.val < 1000000 := lt_trans k.isLt (by norm_num)
  have hp : i k.val = (place (argX m c) (argK m c) r k).val := hu.trans (dif_pos hk)
  refine ⟨(h k).1.trans ?_, (h k).2.trans hp⟩
  rw [hp]
  exact sc_of (argX m c) (argK m c) r (place (argX m c) (argK m c) r k)

/-- The kernel's result, read at a place. -/
theorem readOut_apply (r : Fin 16) (l : Fin 64) :
    readOut m (table_inRange m) c (ix2 r l)
      = ∑ k : Fin 8, heavyK (best (argX m c) (argK m c) r) k * argK m c (ix2 (place (argX m c) (argK m c) r k) l) := by
  have e : readOut m (table_inRange m) c (ix2 r l)
      = rowAt (tblR m) (table_inRange m) (VR m) c ⟨r.val, lt_of_lt_of_eq r.isLt (cfgR_N (tblR m) (table_inRange m)).symm⟩ (ix2 0 l) := by
    unfold readOut
    refine congrArg (rowAt (tblR m) (table_inRange m) (VR m) c _) (funext fun a => ?_)
    match a with
    | ⟨0, _⟩ => rfl
    | ⟨1, _⟩ => rfl
  rw [e]
  generalize ht : (⟨r.val, lt_of_lt_of_eq r.isLt (cfgR_N (tblR m) (table_inRange m)).symm⟩ : Fin (cfgR (tblR m) (table_inRange m)).N) = t
  have hr : grid1.coords t 0 = r := by
    apply Fin.ext
    rw [coord1_val, ← ht]
  unfold rowAt
  refine (mix_apply _ _ l).trans (Finset.sum_congr rfl fun j _ => ?_)
  refine congrArg₂ (· * ·) ?_ ?_
  · refine (pay2_apply _ j).trans (congrArg (fun t => heavyK t j) (funext fun k => ?_))
    refine (topRow_apply m (table_inRange m) c t k).trans ?_
    rw [← (runs_place m c r k).1]
    exact congrArg (fun r => (runs m c 49).1 (ix2 r k)) hr
  · refine keyRow_apply m (table_inRange m) c t j _ l _ ?_
    rw [← (runs_place m c r j).2, word_apply m c]
    exact congrArg (fun r => ((runs m c 49).2 (ix2 r j)).toNat) hr.symm

/-- The kernel's result is the reference's. -/
theorem out_eq : readOut m (table_inRange m) c = Cert.Proof.Ref.refOut (F := Ideal) (argX m c) (argK m c) := by
  funext ix
  have e : ix = ix2 (ix 0) (ix 1) := by
    funext a
    match a with
    | ⟨0, _⟩ => rfl
    | ⟨1, _⟩ => rfl
  rw [e]
  refine (readOut_apply m c (ix 0) (ix 1)).trans (Eq.trans ?_ (refOut_apply (argX m c) (argK m c) (ix 0) (ix 1)).symm)
  obtain ⟨y, hy⟩ := best_real (argX m c) (argK m c) (ix 0)
  rw [hy]
  simp only [heavy_eq]

end Cert.Proof.Pure

end
-- ==== Proof.Calls.Scan.lean ====
/-
  The scan call on its own, at any floats, the device's among them: it ends without fault, its arguments unchanged and
  its semaphores at zero. Its body is the same program as in the whole kernel. What the running lists hold is not needed.
-/
module

public import proofs.«01_k».proof.Proof.Mem.ScanPay
public import proofs.«01_k».proof.Proof.Gen.Scan.Frame

@[expose] public section

noncomputable section

namespace Cert.Proof.Calls

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation)
open Cert.Scan Cert.Scan.Gen Cert.Proof.Mem

variable {F : FTy → Type} [FloatOps F]

/-- No constant of the scan is named: every literal is its own word. -/
@[instance_reducible] def ownWords : Named F := ⟨fun _ _ {φ} b => FloatOps.ofBits φ b⟩

attribute [local instance] ownWords

set_option maxRecDepth 65536 in
/-- The call's own body is the program at these payloads. -/
theorem body_eq (i : grid0.Coords) (a1 : Memref sig .tc .vmem Cert.KernelIdeal.S16x64 .f32) (h1 : a1.IsWhole) (a2 : Memref sig .tc .vmem Cert.KernelIdeal.S20000x64 .f32) (h2 : a2.IsWhole)
    (a3 : Memref sig .tc .vmem Cert.KernelIdeal.S16x8 .f32) (h3 : a3.IsWhole) (a4 : Memref sig .tc .vmem Cert.KernelIdeal.S16x8 .i32) (h4 : a4.IsWhole) :
    cc0__scan_body (F := F) i a1 h1 a2 h2 a3 h3 a4 h4
      = scanProg (scanPay (BitVec.ofNat 32 (i 0).val)) (firstBit (BitVec.ofNat 32 (i 0).val)) a1 a2 a3 a4 := rfl

variable (m : (ℓ : Loc nD τ sig) → Buf (Elt F) ℓ) (c : Dev nD)

/-- The two outputs are the windows of which nothing is said. -/
def unsaid : Fin cfg0.W → Bool := ![false, false, true, true]

/-- The call's proof data: the inputs' blocks, the outputs unnamed. -/
def dat : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Dat.unnamed 2 t
    | ⟨3, _⟩ => Dat.unnamed 3 t
  Φ _ := Pipeline.ΦA spec0 c
  q _ := fullShare
  owed _ := 0

/-- The body at a point is the program. -/
theorem body_at (t : Fin cfg0.N) : (defs₀ (F := F)) .tc cfg0.body (cfg0.bodyArgs t (cfg0.slots t))
    = scanProg (scanPay (BitVec.ofNat 32 (grid0.coords t 0).val)) (firstBit (BitVec.ofNat 32 (grid0.coords t 0).val)) (st0_0 t) (st0_1 t) (st0_2 t) (st0_3 t) :=
  body_eq (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))

theorem before0 (t : Fin cfg0.N) (d : (cfg0.win 0).block.Idx → Elt F (cfg0.win 0).elt) : (dat m c).before 0 t d = iblk m c 0 t :=
  before0_0_of m (dat m c) rfl (fun _ => rfl) t d

theorem before1 (t : Fin cfg0.N) (d : (cfg0.win 1).block.Idx → Elt F (cfg0.win 1).elt) : (dat m c).before 1 t d = iblk m c 1 t :=
  before0_1_of m (dat m c) rfl (fun _ => rfl) t d

/-- The body's obligation at every point. -/
theorem obligation : BodyObligation (dat m c) (defs₀ (F := F)) Variants.none () Set.univ unsaid := fun t => by
  rw [bigSep_W0, bigSep_W0, body_at, show (dat m c).Φ t.succ = (dat m c).Φ t.castSucc from rfl,
    show (dat m c).owesAt () t.succ = (dat m c).owesAt () t.castSucc from rfl]
  simp only [show unsaid 0 = false from rfl, show unsaid 1 = false from rfl, show unsaid 2 = true from rfl, show unsaid 3 = true from rfl]
  iintro ⟨HΦ, HO, ⟨%d0, H0⟩, ⟨%d1, H1⟩, ⟨%d2, H2⟩, ⟨%d3, H3⟩⟩
  rw [before0, before1]
  iapply (wp_wand_r frame (wpE (defs₀ (F := F)) Variants.none (c : Thread nD τ) none))
  isplitl [H0 H1 H2 H3]
  · iapply (scanProg_sound Variants.none c (scanPay (BitVec.ofNat 32 (grid0.coords t 0).val)) (firstBit (BitVec.ofNat 32 (grid0.coords t 0).val))
      (st0_0 t) (st0_1 t) (st0_2 t) (st0_3 t) (iblk m c 0 t) (iblk m c 1 t) d2 d3)
    isplitl [H0]; · iexact H0
    isplitl [H1]; · iexact H1
    isplitl [H2]; · iexact H2
    iexact H3
  iintro %_ ⟨H0, H1, H2, H3⟩
  isplitl [HΦ]; · iexact HΦ
  isplitl [HO]; · iexact HO
  isplitl [H0]; · iexact H0
  isplitl [H1]; · iexact H1
  isplitl [H2]
  · iexists _; iexact H2
  iexists _; iexact H3

/-- The call runs to an end, its inputs and semaphores as they were. -/
theorem scan_run (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_forget cfgs (fun _ c => dat m c) 0 launch0 defs₀ Variants.none unsaid m ρ main
    (fun c => (obligation m c).loose) (fun _ _ => ite_self _) (fun _ _ => rfl) (V m) (hmain m Variants.none) (fun _ _ => rfl) (fun _ _ => rfl) _
    (fun r h => ⟨fun c => ⟨h.1.arr_in c 0 rfl, h.1.arr_in c 1 rfl⟩, h.2⟩)

end Cert.Proof.Calls

end
-- ==== Proof.Calls.ScanIdeal.lean ====
/-
  The scan call's ideal printing rewrites nothing: it is the same program, so it runs as the call does.
-/
module

public import proofs.«01_k».proof.Proof.Calls.Scan
public import proofs.«01_k».proof.Proof.Gen.ScanIdeal

@[expose] public section

set_option maxRecDepth 65536

noncomputable section

namespace Cert.Proof.Calls

open Idealize.ShloMosaic

variable {F : FTy → Type} [FloatOps F]

/-- The two printings have one table of bodies. -/
theorem bodies_eq : Cert.ScanIdeal.defs₀ (F := F) = Cert.Scan.defs₀ (F := F) := by
  unfold Cert.ScanIdeal.defs₀ Cert.Scan.defs₀
  refine congrArg Defs.onTc (funext fun l => funext fun x => ?_)
  match l, x with
  | ⟨0, _⟩, (t, s) => rfl

/-- So they have one table of regions. -/
theorem regions_eq : Cert.ScanIdeal.defs (F := F) = Cert.Scan.defs (F := F) := by
  unfold Cert.ScanIdeal.defs Cert.Scan.defs
  rw [bodies_eq]
  rfl

open Cert.ScanIdeal in
/-- The ideal printing runs to an end, its inputs and semaphores as they were. -/
theorem scanIdeal_run (m : (ℓ : Loc nD τ sig) → Buf (Elt F) ℓ) (ρ : Dev nD → PrngReg) :
    θ_run (Cert.ScanIdeal.defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [regions_eq]
  exact scan_run m ρ

end Cert.Proof.Calls

end
-- ==== Proof.lean ====
/-
  The claim proved: the kernel and the reference each run to an end leaving the inputs and the semaphores as they were,
  and over the extended reals they leave the same result.
-/
module

public import proofs.«01_k».proof.Defs
public import proofs.«01_k».proof.Proof.Gen.ReferenceIdeal.Run
public import proofs.«01_k».proof.Proof.Mem.KernelTop
public import proofs.«01_k».proof.Proof.Pure.Final
public import proofs.«01_k».proof.Proof.Calls.ScanIdeal

@[expose] public section

noncomputable section

namespace Cert.Proof

open Idealize.ShloMosaic

/-- The kernel runs to an end, its inputs and semaphores as they were. -/
theorem kernel_frame : Cert.quiescent_KernelIdeal (hKernelIdeal := Cert.KernelIdeal.Gen.facts) := by
  intro m ρ _
  exact (θ_run Cert.KernelIdeal.defs _ _).mono (fun r h => ⟨fun c => (h.1 c).2, h.2⟩) (Mem.kernel_run m (Pure.table_inRange m) ρ)

/-- The reference runs to an end, its inputs and semaphores as they were. -/
theorem reference_frame : Cert.quiescent_ReferenceIdeal (hReferenceIdeal := Cert.ReferenceIdeal.Gen.facts) := by
  intro m ρ _
  exact (θ_run Cert.ReferenceIdeal.defs _ _).mono (fun r h => ⟨fun c => ⟨(h c).2.1, (h c).2.2⟩, sem_eq_zero_of_no_sems (by decide) r.2⟩)
    (Cert.ReferenceIdeal.Value.run m ρ)

/-- Of the same inputs the two leave the same result. -/
theorem same_result : Cert.algebraic_KernelIdeal_ReferenceIdeal (hKernelIdeal := Cert.KernelIdeal.Gen.facts)
    (hReferenceIdeal := Cert.ReferenceIdeal.Gen.facts) := by
  intro m ρ m' ρ' _ hm
  refine ⟨fun c => Mem.readOut m (Pure.table_inRange m) c, ?_, ?_⟩
  · exact (θ_run Cert.KernelIdeal.defs _ _).mono (fun r h => h.1) (Mem.kernel_run m (Pure.table_inRange m) ρ)
  · refine (θ_run Cert.ReferenceIdeal.defs _ _).mono (fun r h c => ⟨(h c).1.trans ?_, (h c).2⟩) (Cert.ReferenceIdeal.Value.run m' ρ')
    rw [Ref.res_eq m' c, (hm c).1, (hm c).2]
    exact (Pure.out_eq m c).symm

/-- The scan call alone, at the device's floats, runs to an end, its inputs and semaphores as they were. -/
theorem scan_frame : Cert.quiescent_Scan (hScan := Cert.Scan.Gen.facts) :=
  fun m ρ _ => Calls.scan_run (F := Bits) m ρ

/-- So it does over the extended reals. -/
theorem scanIdeal_frame : Cert.quiescent_ScanIdeal (hScanIdeal := Cert.ScanIdeal.Gen.facts) :=
  fun m ρ _ => Calls.scanIdeal_run (F := Ideal) m ρ

/-- The claim. -/
theorem claim : Cert.Claim :=
  ⟨Cert.KernelIdeal.Gen.facts, Cert.ReferenceIdeal.Gen.facts, Cert.Scan.Gen.facts, Cert.ScanIdeal.Gen.facts,
    kernel_frame, reference_frame, scan_frame, scanIdeal_frame, same_result, trivial⟩

end Cert.Proof

end
